-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v38_0)) (v1 : (c : Dev Cert.Kernel7Ideal.nD) → Buf (Elt Ideal) ((c.tc : Thread Cert.Kernel7Ideal.nD Cert.Kernel7Ideal.τ).loc Cert.Kernel7Ideal.main_v38_1)) (v2 : (c : Dev Cert.Kernel7Ideal.nD) → Buf (Elt Ideal) ((c.tc : Thread Cert.Kernel7Ideal.nD Cert.Kernel7Ideal.τ).loc Cert.Kernel7Ideal.main_v38_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v38_0) = v0 c
          ∧ r.2.mem ((c.tc : Thread Cert.Kernel7Ideal.nD Cert.Kernel7Ideal.τ).loc Cert.Kernel7Ideal.main_v38_1) = v1 c
          ∧ r.2.mem ((c.tc : Thread Cert.Kernel7Ideal.nD Cert.Kernel7Ideal.τ).loc Cert.Kernel7Ideal.main_v38_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v93) = v0 c
          ∧ r.2.mem ((c.tc : Thread Cert.Reference7Ideal.nD Cert.Reference7Ideal.τ).loc Cert.Reference7Ideal.main_v95) = v1 c
          ∧ r.2.mem ((c.tc : Thread Cert.Reference7Ideal.nD Cert.Reference7Ideal.τ).loc Cert.Reference7Ideal.main_v96) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v38_0)) (v1 : (c : Dev Cert.Kernel8Ideal.nD) → Buf (Elt Ideal) ((c.tc : Thread Cert.Kernel8Ideal.nD Cert.Kernel8Ideal.τ).loc Cert.Kernel8Ideal.main_v38_1)) (v2 : (c : Dev Cert.Kernel8Ideal.nD) → Buf (Elt Ideal) ((c.tc : Thread Cert.Kernel8Ideal.nD Cert.Kernel8Ideal.τ).loc Cert.Kernel8Ideal.main_v38_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v38_0) = v0 c
          ∧ r.2.mem ((c.tc : Thread Cert.Kernel8Ideal.nD Cert.Kernel8Ideal.τ).loc Cert.Kernel8Ideal.main_v38_1) = v1 c
          ∧ r.2.mem ((c.tc : Thread Cert.Kernel8Ideal.nD Cert.Kernel8Ideal.τ).loc Cert.Kernel8Ideal.main_v38_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v123) = v0 c
          ∧ r.2.mem ((c.tc : Thread Cert.Reference8Ideal.nD Cert.Reference8Ideal.τ).loc Cert.Reference8Ideal.main_v125) = v1 c
          ∧ r.2.mem ((c.tc : Thread Cert.Reference8Ideal.nD Cert.Reference8Ideal.τ).loc Cert.Reference8Ideal.main_v126) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4x64 : Shape := ⟨2, ![4, 64]⟩
abbrev S128 : Shape := ⟨1, ![128]⟩
abbrev S8x4096x1024 : Shape := ⟨3, ![8, 4096, 1024]⟩
abbrev S8x256x1024 : Shape := ⟨3, ![8, 256, 1024]⟩
abbrev S_ : Shape := ⟨0, ![]⟩

class Facts : Prop where
  bcast_S_S4x64 : S_.BroadcastsInDim S4x64 (![] : Fin 0 → Fin S4x64.rank)
  bitsLt_bf16_f32 : FTy.bits .bf16 < FTy.bits .f32
  bcast_S_S8x4096x1024 : S_.BroadcastsInDim S8x4096x1024 (![] : Fin 0 → Fin S8x4096x1024.rank)
  bcast_S_S8x256x1024 : S_.BroadcastsInDim S8x256x1024 (![] : Fin 0 → Fin S8x256x1024.rank)

variable [Facts]

def fn_part1 {F : FTy → Type} [FloatOps F] (main_arg6 : FVec F S8x4096x1024 .bf16) (main_v2 : IVec S4x64 1) (main_v6 : IVec S8x4096x1024 1) (main_v10 : IVec S8x256x1024 1) (main_v14 : IVec S8x256x1024 1) (main_v18 : IVec S8x4096x1024 1) : IVec S4x64 1 × IVec S8x4096x1024 1 × IVec S8x256x1024 1 × IVec S8x256x1024 1 × IVec S8x4096x1024 1 × IVec S8x4096x1024 1 :=
  let main_v19 : FVec F S8x4096x1024 .f32 := (extf .f32 · bitsLt_bf16_f32) main_arg6
  let main_v20 : FVec F S8x4096x1024 .f32 := Host.absf main_v19
  let main_cst_4 : FVec F S_ .f32 := constant S_ .f32 0x7F800000#32
  let main_v21 : FVec F S8x4096x1024 .f32 := broadcastInDim S8x4096x1024 ![] bcast_S_S8x4096x1024 main_cst_4
  let main_v22 : IVec S8x4096x1024 1 := cmpf .olt main_v20 main_v21
  (main_v2, main_v6, main_v10, main_v14, main_v18, main_v22)

def fn {F : FTy → Type} [FloatOps F] (main_arg0 : FVec F S4x64 .f32) (main_arg1 : FVec F S128 .f32) (main_arg2 : FVec F S8x4096x1024 .bf16) (main_arg3 : FVec F S8x256x1024 .bf16) (main_arg4 : FVec F S8x256x1024 .bf16) (main_arg5 : FVec F S8x4096x1024 .bf16) (main_arg6 : FVec F S8x4096x1024 .bf16) : IVec S4x64 1 × IVec S8x4096x1024 1 × IVec S8x256x1024 1 × IVec S8x256x1024 1 × IVec S8x4096x1024 1 × IVec S8x4096x1024 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_v3 : FVec F S8x4096x1024 .f32 := (extf .f32 · bitsLt_bf16_f32) main_arg2
  let main_v4 : FVec F S8x4096x1024 .f32 := Host.absf main_v3
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_v7 : FVec F S8x256x1024 .f32 := (extf .f32 · bitsLt_bf16_f32) main_arg3
  let main_v8 : FVec F S8x256x1024 .f32 := Host.absf main_v7
  let main_cst_1 : FVec F S_ .f32 := constant S_ .f32 0x7F800000#32
  let main_v9 : FVec F S8x256x1024 .f32 := broadcastInDim S8x256x1024 ![] bcast_S_S8x256x1024 main_cst_1
  let main_v10 : IVec S8x256x1024 1 := cmpf .olt main_v8 main_v9
  let main_v11 : FVec F S8x256x1024 .f32 := (extf .f32 · bitsLt_bf16_f32) main_arg4
  let main_v12 : FVec F S8x256x1024 .f32 := Host.absf main_v11
  let main_cst_2 : FVec F S_ .f32 := constant S_ .f32 0x7F800000#32
  let main_v13 : FVec F S8x256x1024 .f32 := broadcastInDim S8x256x1024 ![] bcast_S_S8x256x1024 main_cst_2
  let main_v14 : IVec S8x256x1024 1 := cmpf .olt main_v12 main_v13
  let main_v15 : FVec F S8x4096x1024 .f32 := (extf .f32 · bitsLt_bf16_f32) main_arg5
  let main_v16 : FVec F S8x4096x1024 .f32 := Host.absf main_v15
  let main_cst_3 : FVec F S_ .f32 := constant S_ .f32 0x7F800000#32
  let main_v17 : FVec F S8x4096x1024 .f32 := broadcastInDim S8x4096x1024 ![] bcast_S_S8x4096x1024 main_cst_3
  let main_v18 : IVec S8x4096x1024 1 := cmpf .olt main_v16 main_v17
  fn_part1 (F := F) main_arg6 main_v2 main_v6 main_v10 main_v14 main_v18
-- ==== Pre_finite6.lean ====
abbrev S8x4096x1024 : Shape := ⟨3, ![8, 4096, 1024]⟩
abbrev S8x256x256 : Shape := ⟨3, ![8, 256, 256]⟩
abbrev S8x4096x256 : Shape := ⟨3, ![8, 4096, 256]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)
  bcast_S_S8x256x256 : S_.BroadcastsInDim S8x256x256 (![] : Fin 0 → Fin S8x256x256.rank)
  bcast_S_S8x4096x256 : S_.BroadcastsInDim S8x4096x256 (![] : Fin 0 → Fin S8x4096x256.rank)

variable [Facts]

def fn_part1 {F : FTy → Type} [FloatOps F] (main_v3 : IVec S8x4096x1024 1) (main_v7 : IVec S8x256x256 1) (main_v11 : IVec S8x256x256 1) (main_v15 : IVec S8x4096x256 1) (main_v17 : FVec F S8x4096x256 .f32) (main_v18 : FVec F S8x4096x256 .f32) : IVec S8x4096x1024 1 × IVec S8x256x256 1 × IVec S8x256x256 1 × IVec S8x4096x256 1 × IVec S8x4096x256 1 :=
  let main_v19 : IVec S8x4096x256 1 := cmpf .olt main_v17 main_v18
  (main_v3, main_v7, main_v11, main_v15, main_v19)

def fn {F : FTy → Type} [FloatOps F] (main_arg0 : FVec F S8x4096x1024 .bf16) (main_arg1 : FVec F S8x256x256 .bf16) (main_arg2 : FVec F S8x256x256 .bf16) (main_arg3 : FVec F S8x4096x256 .bf16) (main_arg4 : FVec F S8x4096x256 .bf16) : IVec S8x4096x1024 1 × IVec S8x256x256 1 × IVec S8x256x256 1 × IVec S8x4096x256 1 × IVec S8x4096x256 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_v4 : FVec F S8x256x256 .f32 := (extf .f32 · bitsLt_bf16_f32) main_arg1
  let main_v5 : FVec F S8x256x256 .f32 := Host.absf main_v4
  let main_cst_0 : FVec F S_ .f32 := constant S_ .f32 0x7F800000#32
  let main_v6 : FVec F S8x256x256 .f32 := broadcastInDim S8x256x256 ![] bcast_S_S8x256x256 main_cst_0
  let main_v7 : IVec S8x256x256 1 := cmpf .olt main_v5 main_v6
  let main_v8 : FVec F S8x256x256 .f32 := (extf .f32 · bitsLt_bf16_f32) main_arg2
  let main_v9 : FVec F S8x256x256 .f32 := Host.absf main_v8
  let main_cst_1 : FVec F S_ .f32 := constant S_ .f32 0x7F800000#32
  let main_v10 : FVec F S8x256x256 .f32 := broadcastInDim S8x256x256 ![] bcast_S_S8x256x256 main_cst_1
  let main_v11 : IVec S8x256x256 1 := cmpf .olt main_v9 main_v10
  let main_v12 : FVec F S8x4096x256 .f32 := (extf .f32 · bitsLt_bf16_f32) main_arg3
  let main_v13 : FVec F S8x4096x256 .f32 := Host.absf main_v12
  let main_cst_2 : FVec F S_ .f32 := constant S_ .f32 0x7F800000#32
  let main_v14 : FVec F S8x4096x256 .f32 := broadcastInDim S8x4096x256 ![] bcast_S_S8x4096x256 main_cst_2
  let main_v15 : IVec S8x4096x256 1 := cmpf .olt main_v13 main_v14
  let main_v16 : FVec F S8x4096x256 .f32 := (extf .f32 · bitsLt_bf16_f32) main_arg4
  let main_v17 : FVec F S8x4096x256 .f32 := Host.absf main_v16
  let main_cst_3 : FVec F S_ .f32 := constant S_ .f32 0x7F800000#32
  let main_v18 : FVec F S8x4096x256 .f32 := broadcastInDim S8x4096x256 ![] bcast_S_S8x4096x256 main_cst_3
  fn_part1 (F := F) main_v3 main_v7 main_v11 main_v15 main_v17 main_v18
-- ==== Kernel.lean ====
abbrev S4x64 : Shape := ⟨2, ![4, 64]⟩
abbrev S128 : Shape := ⟨1, ![128]⟩
abbrev S8x4096x1024 : Shape := ⟨3, ![8, 4096, 1024]⟩
abbrev S8x256x1024 : Shape := ⟨3, ![8, 256, 1024]⟩
abbrev S1x128 : Shape := ⟨2, ![1, 128]⟩
abbrev S1x1024x128 : Shape := ⟨3, ![1, 1024, 128]⟩
abbrev S1x256x128 : Shape := ⟨3, ![1, 256, 128]⟩
abbrev S1x4096x128 : Shape := ⟨3, ![1, 4096, 128]⟩
abbrev S2x256x4352 : Shape := ⟨3, ![2, 256, 4352]⟩
abbrev S1x64 : Shape := ⟨2, ![1, 64]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩
abbrev S128x128 : Shape := ⟨2, ![128, 128]⟩
abbrev S1x128x128 : Shape := ⟨3, ![1, 128, 128]⟩
abbrev S256x128 : Shape := ⟨2, ![256, 128]⟩
abbrev S256x256 : Shape := ⟨2, ![256, 256]⟩
abbrev S1x256x256 : Shape := ⟨3, ![1, 256, 256]⟩
abbrev S4096x128 : Shape := ⟨2, ![4096, 128]⟩
abbrev S256x4096 : Shape := ⟨2, ![256, 4096]⟩
abbrev S1x256x4096 : Shape := ⟨3, ![1, 256, 4096]⟩
abbrev S1x256x4352 : Shape := ⟨3, ![1, 256, 4352]⟩
abbrev S256x4352 : Shape := ⟨2, ![256, 4352]⟩
abbrev S256 : Shape := ⟨1, ![256]⟩
abbrev S256x1 : Shape := ⟨2, ![256, 1]⟩
abbrev S128x1 : Shape := ⟨2, ![128, 1]⟩

abbrev nBuf : Space → Nat
  | .hbm => 9
  | .vmem => 15
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S8x4096x1024, .bf16⟩
  | .hbm, ⟨3, _⟩ => ⟨S8x256x1024, .bf16⟩
  | .hbm, ⟨4, _⟩ => ⟨S8x256x1024, .bf16⟩
  | .hbm, ⟨5, _⟩ => ⟨S8x4096x1024, .bf16⟩
  | .hbm, ⟨6, _⟩ => ⟨S8x4096x1024, .bf16⟩
  | .hbm, ⟨7, _⟩ => ⟨S1x128, .f32⟩
  | .hbm, ⟨8, _⟩ => ⟨S8x4096x1024, .bf16⟩
  | .local _ .vmem, ⟨0, _⟩ => ⟨S4x64, .f32⟩
  | .local _ .vmem, ⟨1, _⟩ => ⟨S1x128, .f32⟩
  | .local _ .vmem, ⟨2, _⟩ => ⟨S1x1024x128, .bf16⟩
  | .local _ .vmem, ⟨3, _⟩ => ⟨S1x1024x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S2x256x4352, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x64 : Shape := ⟨2, ![4, 64]⟩
abbrev S128 : Shape := ⟨1, ![128]⟩
abbrev S8x4096x1024 : Shape := ⟨3, ![8, 4096, 1024]⟩
abbrev S8x256x1024 : Shape := ⟨3, ![8, 256, 1024]⟩
abbrev S1x64 : Shape := ⟨2, ![1, 64]⟩
abbrev S64 : Shape := ⟨1, ![64]⟩
abbrev S_ : Shape := ⟨0, ![]⟩
abbrev S8x256x8x2x64 : Shape := ⟨5, ![8, 256, 8, 2, 64]⟩
abbrev S8x4096x8x2x64 : Shape := ⟨5, ![8, 4096, 8, 2, 64]⟩
abbrev S8x4352x8x2x64 : Shape := ⟨5, ![8, 4352, 8, 2, 64]⟩
abbrev S8x256x8x128 : Shape := ⟨4, ![8, 256, 8, 128]⟩
abbrev S8x4096x8x128 : Shape := ⟨4, ![8, 4096, 8, 128]⟩
abbrev S8x4352x8x128 : Shape := ⟨4, ![8, 4352, 8, 128]⟩
abbrev S8x8x2x4096x4352 : Shape := ⟨5, ![8, 8, 2, 4096, 4352]⟩
abbrev S8x8x2x4096 : Shape := ⟨4, ![8, 8, 2, 4096]⟩
abbrev S8x8x2x4096x1 : Shape := ⟨5, ![8, 8, 2, 4096, 1]⟩
abbrev S8x8x1x4096x4352 : Shape := ⟨5, ![8, 8, 1, 4096, 4352]⟩
abbrev S8x8x4096x4352 : Shape := ⟨4, ![8, 8, 4096, 4352]⟩
abbrev S8x8x128x4096 : Shape := ⟨4, ![8, 8, 128, 4096]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩

abbrev nBuf : Space → Nat
  | .hbm => 87
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S8x4096x1024, .bf16⟩
  | .hbm, ⟨3, _⟩ => ⟨S8x256x1024, .bf16⟩
  | .hbm, ⟨4, _⟩ => ⟨S8x256x1024, .bf16⟩
  | .hbm, ⟨5, _⟩ => ⟨S8x4096x1024, .bf16⟩
  | .hbm, ⟨6, _⟩ => ⟨S8x4096x1024, .bf16⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x256x1024, .f32⟩
  | .hbm, ⟨27, _⟩ => ⟨S8x256x8x2x64, .f32⟩
  | .hbm, ⟨28, _⟩ => ⟨S8x4096x1024, .f32⟩
  | .hbm, ⟨29, _⟩ => ⟨S8x4096x8x2x64, .f32⟩
  | .hbm, ⟨30, _⟩ => ⟨S8x4352x8x2x64, .f32⟩
  | .hbm, ⟨31, _⟩ => ⟨S8x256x1024, .f32⟩
  | .hbm, ⟨32, _⟩ => ⟨S8x256x8x128, .f32⟩
  | .hbm, ⟨33, _⟩ => ⟨S8x4096x1024, .f32⟩
  | .hbm, ⟨34, _⟩ => ⟨S8x4096x8x128, .f32⟩
  | .hbm, ⟨35, _⟩ => ⟨S8x4352x8x128, .f32⟩
  | .hbm, ⟨36, _⟩ => ⟨S8x4096x1024, .f32⟩
  | .hbm, ⟨37, _⟩ => ⟨S8x4096x8x2x64, .f32⟩
  | .hbm, ⟨38, _⟩ => ⟨S8x8x2x4096x4352, .f32⟩
  | .hbm, ⟨39, _⟩ => ⟨S_, .f32⟩
  | .hbm, ⟨40, _⟩ => ⟨S_, .f32⟩
  | .hbm, ⟨41, _⟩ => ⟨S8x8x2x4096x4352, .f32⟩
  | .hbm, ⟨42, _⟩ => ⟨S8x8x2x4096x4352, .f32⟩
  | .hbm, ⟨43, _⟩ => ⟨S_, .f32⟩
  | .hbm, ⟨44, _⟩ => ⟨S8x8x2x4096, .f32⟩
  | .hbm, ⟨45, _⟩ => ⟨S_, .f32⟩
  | .hbm, ⟨46, _⟩ => ⟨S8x8x2x4096, .f32⟩
  | .hbm, ⟨47, _⟩ => ⟨S8x8x2x4096, .f32⟩
  | .hbm, ⟨48, _⟩ => ⟨S8x8x2x4096x1, .f32⟩
  | .hbm, ⟨49, _⟩ => ⟨S8x8x2x4096x4352, .f32⟩
  | .hbm, ⟨50, _⟩ => ⟨S8x8x2x4096x4352, .f32⟩
  | .hbm, ⟨51, _⟩ => ⟨S8x8x2x4096x4352, .f32⟩
  | .hbm, ⟨52, _⟩ => ⟨S_, .f32⟩
  | .hbm, ⟨53, _⟩ => ⟨S8x8x2x4096, .f32⟩
  | .hbm, ⟨54, _⟩ => ⟨S8x8x2x4096x1, .f32⟩
  | .hbm, ⟨55, _⟩ => ⟨S8x8x2x4096x4352, .f32⟩
  | .hbm, ⟨56, _⟩ => ⟨S8x8x2x4096x4352, .f32⟩
  | .hbm, ⟨57, _⟩ => ⟨S8x8x1x4096x4352, .f32⟩
  | .hbm, ⟨58, _⟩ => ⟨S8x8x4096x4352, .f32⟩
  | .hbm, ⟨59, _⟩ => ⟨S8x8x1x4096x4352, .f32⟩
  | .hbm, ⟨60, _⟩ => ⟨S8x8x4096x4352, .f32⟩
  | .hbm, ⟨61, _⟩ => ⟨S8x8x4096x4352, .f32⟩
  | .hbm, ⟨62, _⟩ => ⟨S8x8x4096x4352, .f32⟩
  | .hbm, ⟨63, _⟩ => ⟨S8x8x4096x4352, .f32⟩
  | .hbm, ⟨64, _⟩ => ⟨S8x8x128x4096, .f32⟩
  | .hbm, ⟨65, _⟩ => ⟨S8x4096x8x128, .f32⟩
  | .hbm, ⟨66, _⟩ => ⟨S8x4096x8x128, .f32⟩
  | .hbm, ⟨67, _⟩ => ⟨S_, .f32⟩
  | .hbm, ⟨68, _⟩ => ⟨S8x4096x8, .f32⟩
  | .hbm, ⟨69, _⟩ => ⟨S8x4096x8x1, .f32⟩
  | .hbm, ⟨70, _⟩ => ⟨S_, .f32⟩
  | .hbm, ⟨71, _⟩ => ⟨S8x4096x8x1, .f32⟩
  | .hbm, ⟨72, _⟩ => ⟨S8x4096x8x1, .f32⟩
  | .hbm, ⟨73, _⟩ => ⟨S_, .f32⟩
  | .hbm, ⟨74, _⟩ => ⟨S8x4096x8x1, .f32⟩
  | .hbm, ⟨75, _⟩ => ⟨S8x4096x8x1, .f32⟩
  | .hbm, ⟨76, _⟩ => ⟨S8x4096x8x1, .f32⟩
  | .hbm, ⟨77, _⟩ => ⟨S8x4096x8x128, .f32⟩
  | .hbm, ⟨78, _⟩ => ⟨S8x4096x8x128, .f32⟩
  | .hbm, ⟨79, _⟩ => ⟨S1x1x1x128, .f32⟩
  | .hbm, ⟨80, _⟩ => ⟨S8x4096x8x128, .f32⟩
  | .hbm, ⟨81, _⟩ => ⟨S8x4096x8x128, .f32⟩
  | .hbm, ⟨82, _⟩ => ⟨S_, .f32⟩
  | .hbm, ⟨83, _⟩ => ⟨S8x4096x8x128, .f32⟩
  | .hbm, ⟨84, _⟩ => ⟨S8x4096x8x128, .f32⟩
  | .hbm, ⟨85, _⟩ => ⟨S8x4096x1024, .f32⟩
  | .hbm, ⟨86, _⟩ => ⟨S8x4096x1024, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x9x1024 : Shape := ⟨3, ![8, 9, 1024]⟩
abbrev S1024x2816 : Shape := ⟨2, ![1024, 2816]⟩
abbrev S2816x1024 : Shape := ⟨2, ![2816, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 14
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x4096x1024, .bf16⟩
  | .hbm, ⟨6, _⟩ => ⟨S1024x1024, .f32⟩
  | .hbm, ⟨7, _⟩ => ⟨S1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1024x1024, .bf16⟩
  | .hbm, ⟨12, _⟩ => ⟨S1x1024, .f32⟩
  | .hbm, ⟨13, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1024x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x4096x1024 : Shape := ⟨3, ![8, 4096, 1024]⟩
abbrev S8x9x1024 : Shape := ⟨3, ![8, 9, 1024]⟩
abbrev S1024x2816 : Shape := ⟨2, ![1024, 2816]⟩
abbrev S2816x1024 : Shape := ⟨2, ![2816, 1024]⟩
abbrev S1024x1024 : Shape := ⟨2, ![1024, 1024]⟩
abbrev S1024 : Shape := ⟨1, ![1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x2816 : Shape := ⟨3, ![8, 4096, 2816]⟩
abbrev S1x1x1024 : Shape := ⟨3, ![1, 1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x4096x1024, .bf16⟩
  | .hbm, ⟨6, _⟩ => ⟨S1024x1024, .f32⟩
  | .hbm, ⟨7, _⟩ => ⟨S1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S_, .f32⟩
  | .hbm, ⟨49, _⟩ => ⟨S8x4096x2816, .f32⟩
  | .hbm, ⟨50, _⟩ => ⟨S8x4096x2816, .f32⟩
  | .hbm, ⟨51, _⟩ => ⟨S_, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x1, .f32⟩
  | .hbm, ⟨72, _⟩ => ⟨S8x4096x1024, .f32⟩
  | .hbm, ⟨73, _⟩ => ⟨S8x4096x1024, .f32⟩
  | .hbm, ⟨74, _⟩ => ⟨S1x1x1024, .f32⟩
  | .hbm, ⟨75, _⟩ => ⟨S8x4096x1024, .f32⟩
  | .hbm, ⟨76, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x9x1024 : Shape := ⟨3, ![8, 9, 1024]⟩
abbrev S1024x2816 : Shape := ⟨2, ![1024, 2816]⟩
abbrev S2816x1024 : Shape := ⟨2, ![2816, 1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x512x1024, .f32⟩
  | .local _ .vmem, ⟨8, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x4096x1024 : Shape := ⟨3, ![8, 4096, 1024]⟩
abbrev S8x9x1024 : Shape := ⟨3, ![8, 9, 1024]⟩
abbrev S1024x2816 : Shape := ⟨2, ![1024, 2816]⟩
abbrev S2816x1024 : Shape := ⟨2, ![2816, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x2816 : Shape := ⟨3, ![8, 4096, 2816]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S_, .f32⟩
  | .hbm, ⟨41, _⟩ => ⟨S8x4096x2816, .f32⟩
  | .hbm, ⟨42, _⟩ => ⟨S8x4096x2816, .f32⟩
  | .hbm, ⟨43, _⟩ => ⟨S_, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x9x1024 : Shape := ⟨3, ![8, 9, 1024]⟩
abbrev S1024x2816 : Shape := ⟨2, ![1024, 2816]⟩
abbrev S2816x1024 : Shape := ⟨2, ![2816, 1024]⟩
abbrev S1024x1024 : Shape := ⟨2, ![1024, 1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x4096x1024, .bf16⟩
  | .hbm, ⟨6, _⟩ => ⟨S1024x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1024x1024, .bf16⟩
  | .hbm, ⟨11, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1024x1024, .bf16⟩
  | .local _ .vmem, ⟨10, _⟩ => ⟨S1x512x1024, .f32⟩
  | .local _ .vmem, ⟨11, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8x4096x1024 : Shape := ⟨3, ![8, 4096, 1024]⟩
abbrev S8x9x1024 : Shape := ⟨3, ![8, 9, 1024]⟩
abbrev S1024x2816 : Shape := ⟨2, ![1024, 2816]⟩
abbrev S2816x1024 : Shape := ⟨2, ![2816, 1024]⟩
abbrev S1024x1024 : Shape := ⟨2, ![1024, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x2816 : Shape := ⟨3, ![8, 4096, 2816]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x4096x1024, .bf16⟩
  | .hbm, ⟨6, _⟩ => ⟨S1024x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x1x1024, .f32⟩
  | .hbm, ⟨43, _⟩ => ⟨S8x1x1024, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S_, .f32⟩
  | .hbm, ⟨48, _⟩ => ⟨S8x4096x2816, .f32⟩
  | .hbm, ⟨49, _⟩ => ⟨S8x4096x2816, .f32⟩
  | .hbm, ⟨50, _⟩ => ⟨S_, .f32⟩
  | .hbm, ⟨51, _⟩ => ⟨S8x4096x2816, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x9x1024 : Shape := ⟨3, ![8, 9, 1024]⟩
abbrev S1024x2816 : Shape := ⟨2, ![1024, 2816]⟩
abbrev S2816x1024 : Shape := ⟨2, ![2816, 1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x512x1024, .f32⟩
  | .local _ .vmem, ⟨8, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8x4096x1024 : Shape := ⟨3, ![8, 4096, 1024]⟩
abbrev S8x9x1024 : Shape := ⟨3, ![8, 9, 1024]⟩
abbrev S1024x2816 : Shape := ⟨2, ![1024, 2816]⟩
abbrev S2816x1024 : Shape := ⟨2, ![2816, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x2816 : Shape := ⟨3, ![8, 4096, 2816]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S_, .f32⟩
  | .hbm, ⟨41, _⟩ => ⟨S8x4096x2816, .f32⟩
  | .hbm, ⟨42, _⟩ => ⟨S8x4096x2816, .f32⟩
  | .hbm, ⟨43, _⟩ => ⟨S_, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x256x256 : Shape := ⟨3, ![8, 256, 256]⟩
abbrev S8x4096x256 : Shape := ⟨3, ![8, 4096, 256]⟩
abbrev S1x512x512 : Shape := ⟨3, ![1, 512, 512]⟩
abbrev S1x256x128 : Shape := ⟨3, ![1, 256, 128]⟩
abbrev S1x4096x128 : Shape := ⟨3, ![1, 4096, 128]⟩
abbrev S2x128x4352 : Shape := ⟨3, ![2, 128, 4352]⟩
abbrev S1x32x128 : Shape := ⟨3, ![1, 32, 128]⟩
abbrev S32x128 : Shape := ⟨2, ![32, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩
abbrev S4096x128 : Shape := ⟨2, ![4096, 128]⟩
abbrev S128x4096 : Shape := ⟨2, ![128, 4096]⟩
abbrev S1x128x4096 : Shape := ⟨3, ![1, 128, 4096]⟩
abbrev S1x128x4352 : Shape := ⟨3, ![1, 128, 4352]⟩
abbrev S128x4352 : Shape := ⟨2, ![128, 4352]⟩
abbrev S128 : Shape := ⟨1, ![128]⟩
abbrev S128x1 : Shape := ⟨2, ![128, 1]⟩

abbrev nBuf : Space → Nat
  | .hbm => 6
  | .vmem => 13
  | .smem => 0
  | _ => 0

abbrev bufTy : (tb : Table) → Fin (tcTables nBuf tb) → BufTy
  | .hbm, ⟨0, _⟩ => ⟨S8x4096x1024, .bf16⟩
  | .hbm, ⟨1, _⟩ => ⟨S8x256x256, .bf16⟩
  | .hbm, ⟨2, _⟩ => ⟨S8x256x256, .bf16⟩
  | .hbm, ⟨3, _⟩ => ⟨S8x4096x256, .bf16⟩
  | .hbm, ⟨4, _⟩ => ⟨S8x4096x256, .bf16⟩
  | .hbm, ⟨5, _⟩ => ⟨S8x4096x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x512x512, .bf16⟩
  | .local _ .vmem, ⟨11, _⟩ => ⟨S1x512x512, .bf16⟩
  | .local _ .vmem, ⟨12, _⟩ => ⟨S2x128x4352, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference6Ideal.lean ====
abbrev S8x4096x1024 : Shape := ⟨3, ![8, 4096, 1024]⟩
abbrev S8x256x256 : Shape := ⟨3, ![8, 256, 256]⟩
abbrev S8x4096x256 : Shape := ⟨3, ![8, 4096, 256]⟩
abbrev S8x256x2x128 : Shape := ⟨4, ![8, 256, 2, 128]⟩
abbrev S8x4096x2x128 : Shape := ⟨4, ![8, 4096, 2, 128]⟩
abbrev S8x4352x2x128 : Shape := ⟨4, ![8, 4352, 2, 128]⟩
abbrev S8x4096x2x4x128 : Shape := ⟨5, ![8, 4096, 2, 4, 128]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x256x256, .bf16⟩
  | .hbm, ⟨2, _⟩ => ⟨S8x256x256, .bf16⟩
  | .hbm, ⟨3, _⟩ => ⟨S8x4096x256, .bf16⟩
  | .hbm, ⟨4, _⟩ => ⟨S8x4096x256, .bf16⟩
  | .hbm, ⟨5, _⟩ => ⟨S8x256x256, .f32⟩
  | .hbm, ⟨6, _⟩ => ⟨S8x256x2x128, .f32⟩
  | .hbm, ⟨7, _⟩ => ⟨S8x4096x256, .f32⟩
  | .hbm, ⟨8, _⟩ => ⟨S8x4096x2x128, .f32⟩
  | .hbm, ⟨9, _⟩ => ⟨S8x4352x2x128, .f32⟩
  | .hbm, ⟨10, _⟩ => ⟨S8x256x256, .f32⟩
  | .hbm, ⟨11, _⟩ => ⟨S8x256x2x128, .f32⟩
  | .hbm, ⟨12, _⟩ => ⟨S8x4096x256, .f32⟩
  | .hbm, ⟨13, _⟩ => ⟨S8x4096x2x128, .f32⟩
  | .hbm, ⟨14, _⟩ => ⟨S8x4352x2x128, .f32⟩
  | .hbm, ⟨15, _⟩ => ⟨S8x4096x1024, .f32⟩
  | .hbm, ⟨16, _⟩ => ⟨S8x4096x2x4x128, .f32⟩
  | .hbm, ⟨17, _⟩ => ⟨S8x2x4352x4096x4, .f32⟩
  | .hbm, ⟨18, _⟩ => ⟨S8x2x4x4096x4352, .f32⟩
  | .hbm, ⟨19, _⟩ => ⟨S_, .f32⟩
  | .hbm, ⟨20, _⟩ => ⟨S_, .f32⟩
  | .hbm, ⟨21, _⟩ => ⟨S8x2x4x4096x4352, .f32⟩
  | .hbm, ⟨22, _⟩ => ⟨S8x2x4x4096x4352, .f32⟩
  | .hbm, ⟨23, _⟩ => ⟨S_, .f32⟩
  | .hbm, ⟨24, _⟩ => ⟨S8x2x4x4096, .f32⟩
  | .hbm, ⟨25, _⟩ => ⟨S_, .f32⟩
  | .hbm, ⟨26, _⟩ => ⟨S8x2x4x4096, .f32⟩
  | .hbm, ⟨27, _⟩ => ⟨S8x2x4x4096, .f32⟩
  | .hbm, ⟨28, _⟩ => ⟨S8x2x4x4096x1, .f32⟩
  | .hbm, ⟨29, _⟩ => ⟨S8x2x4x4096x4352, .f32⟩
  | .hbm, ⟨30, _⟩ => ⟨S8x2x4x4096x4352, .f32⟩
  | .hbm, ⟨31, _⟩ => ⟨S8x2x4x4096x4352, .f32⟩
  | .hbm, ⟨32, _⟩ => ⟨S_, .f32⟩
  | .hbm, ⟨33, _⟩ => ⟨S8x2x4x4096, .f32⟩
  | .hbm, ⟨34, _⟩ => ⟨S8x2x4x4096x1, .f32⟩
  | .hbm, ⟨35, _⟩ => ⟨S8x2x4x4096x4352, .f32⟩
  | .hbm, ⟨36, _⟩ => ⟨S8x2x4x4096x4352, .f32⟩
  | .hbm, ⟨37, _⟩ => ⟨S8x2x128x4x4096, .f32⟩
  | .hbm, ⟨38, _⟩ => ⟨S8x4096x2x4x128, .f32⟩
  | .hbm, ⟨39, _⟩ => ⟨S8x4096x1024, .f32⟩
  | .hbm, ⟨40, _⟩ => ⟨S8x4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel7.lean ====
abbrev S8x4096x1024 : Shape := ⟨3, ![8, 4096, 1024]⟩
abbrev S8x9x1024 : Shape := ⟨3, ![8, 9, 1024]⟩
abbrev S1024x3072 : Shape := ⟨2, ![1024, 3072]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x512x1024 : Shape := ⟨3, ![1, 512, 1024]⟩
abbrev S1x9x1024 : Shape := ⟨3, ![1, 9, 1024]⟩
abbrev S512x128 : Shape := ⟨2, ![512, 128]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1x512x128 : Shape := ⟨3, ![1, 512, 128]⟩

abbrev nBuf : Space → Nat
  | .hbm => 46
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024x3072, .f32⟩
  | .hbm, ⟨3, _⟩ => ⟨S1024x3072, .bf16⟩
  | .hbm, ⟨4, _⟩ => ⟨S64, .i32⟩
  | .hbm, ⟨5, _⟩ => ⟨S64x64, .i32⟩
  | .hbm, ⟨6, _⟩ => ⟨S4096, .i32⟩
  | .hbm, ⟨7, _⟩ => ⟨S4096, .f32⟩
  | .hbm, ⟨8, _⟩ => ⟨S64, .i32⟩
  | .hbm, ⟨9, _⟩ => ⟨S1x64, .i32⟩
  | .hbm, ⟨10, _⟩ => ⟨S64x64, .i32⟩
  | .hbm, ⟨11, _⟩ => ⟨S4096, .i32⟩
  | .hbm, ⟨12, _⟩ => ⟨S4096, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096x1, .f32⟩
  | .hbm, ⟨22, _⟩ => ⟨S1x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x1, .f32⟩
  | .hbm, ⟨27, _⟩ => ⟨S1x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x64, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S4096x32, .f32⟩
  | .hbm, ⟨39, _⟩ => ⟨S4096x64, .f32⟩
  | .hbm, ⟨40, _⟩ => ⟨S1x4096x1x64, .f32⟩
  | .hbm, ⟨41, _⟩ => ⟨S1x4096x2x64, .f32⟩
  | .hbm, ⟨42, _⟩ => ⟨S4096x128, .f32⟩
  | .hbm, ⟨43, _⟩ => ⟨S8x4096x1024, .bf16⟩
  | .hbm, ⟨44, _⟩ => ⟨S8x4096x1024, .bf16⟩
  | .hbm, ⟨45, _⟩ => ⟨S8x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x3072, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38_0 : Ref sig .tc := ⟨.hbm, 43, rfl⟩
abbrev main_v38_1 : Ref sig .tc := ⟨.hbm, 44, rfl⟩
abbrev main_v38_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S8x4096x1024 : Shape := ⟨3, ![8, 4096, 1024]⟩
abbrev S8x9x1024 : Shape := ⟨3, ![8, 9, 1024]⟩
abbrev S1024x3072 : Shape := ⟨2, ![1024, 3072]⟩
abbrev S_ : Shape := ⟨0, ![]⟩
abbrev S8x4096 : Shape := ⟨2, ![8, 4096]⟩
abbrev S8x4096x1 : Shape := ⟨3, ![8, 4096, 1]⟩
abbrev S8x1x1024 : Shape := ⟨3, ![8, 1, 1024]⟩
abbrev S8x4096x3072 : Shape := ⟨3, ![8, 4096, 3072]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S8x4096x16x64 : Shape := ⟨4, ![8, 4096, 16, 64]⟩
abbrev S4096x1x32 : Shape := ⟨3, ![4096, 1, 32]⟩
abbrev S8x4096x16x32 : Shape := ⟨4, ![8, 4096, 16, 32]⟩
abbrev S1x4096x1x32 : Shape := ⟨4, ![1, 4096, 1, 32]⟩

abbrev nBuf : Space → Nat
  | .hbm => 107
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024x3072, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S8x1x1024, .f32⟩
  | .hbm, ⟨17, _⟩ => ⟨S_, .f32⟩
  | .hbm, ⟨18, _⟩ => ⟨S8x1x1024, .f32⟩
  | .hbm, ⟨19, _⟩ => ⟨S8x1x1024, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S8x4096x1024, .f32⟩
  | .hbm, ⟨24, _⟩ => ⟨S8x4096x1024, .f32⟩
  | .hbm, ⟨25, _⟩ => ⟨S8x4096x3072, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S64, .i32⟩
  | .hbm, ⟨30, _⟩ => ⟨S64x64, .i32⟩
  | .hbm, ⟨31, _⟩ => ⟨S4096, .i32⟩
  | .hbm, ⟨32, _⟩ => ⟨S4096, .f32⟩
  | .hbm, ⟨33, _⟩ => ⟨S64, .i32⟩
  | .hbm, ⟨34, _⟩ => ⟨S1x64, .i32⟩
  | .hbm, ⟨35, _⟩ => ⟨S64x64, .i32⟩
  | .hbm, ⟨36, _⟩ => ⟨S4096, .i32⟩
  | .hbm, ⟨37, _⟩ => ⟨S4096, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S4096x1, .f32⟩
  | .hbm, ⟨47, _⟩ => ⟨S1x16, .f32⟩
  | .hbm, ⟨48, _⟩ => ⟨S4096x16, .f32⟩
  | .hbm, ⟨49, _⟩ => ⟨S4096x16, .f32⟩
  | .hbm, ⟨50, _⟩ => ⟨S4096x16, .f32⟩
  | .hbm, ⟨51, _⟩ => ⟨S4096x1, .f32⟩
  | .hbm, ⟨52, _⟩ => ⟨S1x16, .f32⟩
  | .hbm, ⟨53, _⟩ => ⟨S4096x16, .f32⟩
  | .hbm, ⟨54, _⟩ => ⟨S4096x16, .f32⟩
  | .hbm, ⟨55, _⟩ => ⟨S4096x16, .f32⟩
  | .hbm, ⟨56, _⟩ => ⟨S4096x32, .f32⟩
  | .hbm, ⟨57, _⟩ => ⟨S4096x32, .f32⟩
  | .hbm, ⟨58, _⟩ => ⟨S4096x32, .f32⟩
  | .hbm, ⟨59, _⟩ => ⟨S8x4096x16x64, .f32⟩
  | .hbm, ⟨60, _⟩ => ⟨S4096x1x32, .f32⟩
  | .hbm, ⟨61, _⟩ => ⟨S4096x1x32, .f32⟩
  | .hbm, ⟨62, _⟩ => ⟨S8x4096x16x32, .f32⟩
  | .hbm, ⟨63, _⟩ => ⟨S8x4096x16x32, .f32⟩
  | .hbm, ⟨64, _⟩ => ⟨S1x4096x1x32, .f32⟩
  | .hbm, ⟨65, _⟩ => ⟨S8x4096x16x32, .f32⟩
  | .hbm, ⟨66, _⟩ => ⟨S8x4096x16x32, .f32⟩
  | .hbm, ⟨67, _⟩ => ⟨S1x4096x1x32, .f32⟩
  | .hbm, ⟨68, _⟩ => ⟨S8x4096x16x32, .f32⟩
  | .hbm, ⟨69, _⟩ => ⟨S8x4096x16x32, .f32⟩
  | .hbm, ⟨70, _⟩ => ⟨S8x4096x16x32, .f32⟩
  | .hbm, ⟨71, _⟩ => ⟨S1x4096x1x32, .f32⟩
  | .hbm, ⟨72, _⟩ => ⟨S8x4096x16x32, .f32⟩
  | .hbm, ⟨73, _⟩ => ⟨S8x4096x16x32, .f32⟩
  | .hbm, ⟨74, _⟩ => ⟨S1x4096x1x32, .f32⟩
  | .hbm, ⟨75, _⟩ => ⟨S8x4096x16x32, .f32⟩
  | .hbm, ⟨76, _⟩ => ⟨S8x4096x16x32, .f32⟩
  | .hbm, ⟨77, _⟩ => ⟨S8x4096x16x32, .f32⟩
  | .hbm, ⟨78, _⟩ => ⟨S8x4096x16x64, .f32⟩
  | .hbm, ⟨79, _⟩ => ⟨S_, .f32⟩
  | .hbm, ⟨80, _⟩ => ⟨S8x4096x16x64, .f32⟩
  | .hbm, ⟨81, _⟩ => ⟨S8x4096x16x64, .f32⟩
  | .hbm, ⟨82, _⟩ => ⟨S8x4096x16x64, .f32⟩
  | .hbm, ⟨83, _⟩ => ⟨S4096x1x32, .f32⟩
  | .hbm, ⟨84, _⟩ => ⟨S4096x1x32, .f32⟩
  | .hbm, ⟨85, _⟩ => ⟨S8x4096x16x32, .f32⟩
  | .hbm, ⟨86, _⟩ => ⟨S8x4096x16x32, .f32⟩
  | .hbm, ⟨87, _⟩ => ⟨S1x4096x1x32, .f32⟩
  | .hbm, ⟨88, _⟩ => ⟨S8x4096x16x32, .f32⟩
  | .hbm, ⟨89, _⟩ => ⟨S8x4096x16x32, .f32⟩
  | .hbm, ⟨90, _⟩ => ⟨S1x4096x1x32, .f32⟩
  | .hbm, ⟨91, _⟩ => ⟨S8x4096x16x32, .f32⟩
  | .hbm, ⟨92, _⟩ => ⟨S8x4096x16x32, .f32⟩
  | .hbm, ⟨93, _⟩ => ⟨S8x4096x16x32, .f32⟩
  | .hbm, ⟨94, _⟩ => ⟨S1x4096x1x32, .f32⟩
  | .hbm, ⟨95, _⟩ => ⟨S8x4096x16x32, .f32⟩
  | .hbm, ⟨96, _⟩ => ⟨S8x4096x16x32, .f32⟩
  | .hbm, ⟨97, _⟩ => ⟨S1x4096x1x32, .f32⟩
  | .hbm, ⟨98, _⟩ => ⟨S8x4096x16x32, .f32⟩
  | .hbm, ⟨99, _⟩ => ⟨S8x4096x16x32, .f32⟩
  | .hbm, ⟨100, _⟩ => ⟨S8x4096x16x32, .f32⟩
  | .hbm, ⟨101, _⟩ => ⟨S8x4096x16x64, .f32⟩
  | .hbm, ⟨102, _⟩ => ⟨S8x4096x1024, .f32⟩
  | .hbm, ⟨103, _⟩ => ⟨S8x4096x1024, .bf16⟩
  | .hbm, ⟨104, _⟩ => ⟨S8x4096x1024, .f32⟩
  | .hbm, ⟨105, _⟩ => ⟨S8x4096x1024, .bf16⟩
  | .hbm, ⟨106, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_cst_5 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩

abbrev nD : Nat := 1
abbrev τ : Topo := Topo.v7x

variable {F : FTy → Type} [FloatOps F]
-- ==== Kernel8.lean ====
abbrev S8x4096x1024 : Shape := ⟨3, ![8, 4096, 1024]⟩
abbrev S8x9x1024 : Shape := ⟨3, ![8, 9, 1024]⟩
abbrev S1024x1536 : Shape := ⟨2, ![1024, 1536]⟩
abbrev S2x128 : Shape := ⟨2, ![2, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1x4096x1x128 : Shape := ⟨4, ![1, 4096, 1, 128]⟩
abbrev S8x4096x256 : Shape := ⟨3, ![8, 4096, 256]⟩
abbrev S1x512x1024 : Shape := ⟨3, ![1, 512, 1024]⟩
abbrev S1x9x1024 : Shape := ⟨3, ![1, 9, 1024]⟩
abbrev S512x128 : Shape := ⟨2, ![512, 128]⟩
abbrev S1x512x256 : Shape := ⟨3, ![1, 512, 256]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1x128 : Shape := ⟨2, ![1, 128]⟩
abbrev S1x512x128 : Shape := ⟨3, ![1, 512, 128]⟩
abbrev S1024x256 : Shape := ⟨2, ![1024, 256]⟩
abbrev S512x256 : Shape := ⟨2, ![512, 256]⟩

abbrev nBuf : Space → Nat
  | .hbm => 47
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024x1536, .f32⟩
  | .hbm, ⟨3, _⟩ => ⟨S2x128, .f32⟩
  | .hbm, ⟨4, _⟩ => ⟨S1024x1536, .bf16⟩
  | .hbm, ⟨5, _⟩ => ⟨S64, .i32⟩
  | .hbm, ⟨6, _⟩ => ⟨S64x64, .i32⟩
  | .hbm, ⟨7, _⟩ => ⟨S4096, .i32⟩
  | .hbm, ⟨8, _⟩ => ⟨S4096, .f32⟩
  | .hbm, ⟨9, _⟩ => ⟨S64, .i32⟩
  | .hbm, ⟨10, _⟩ => ⟨S1x64, .i32⟩
  | .hbm, ⟨11, _⟩ => ⟨S64x64, .i32⟩
  | .hbm, ⟨12, _⟩ => ⟨S4096, .i32⟩
  | .hbm, ⟨13, _⟩ => ⟨S4096, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x128, .f32⟩
  | .hbm, ⟨36, _⟩ => ⟨S1x4096x1x128, .f32⟩
  | .hbm, ⟨37, _⟩ => ⟨S1x4096x1x128, .f32⟩
  | .hbm, ⟨38, _⟩ => ⟨S4096x128, .f32⟩
  | .hbm, ⟨39, _⟩ => ⟨S4096x64, .f32⟩
  | .hbm, ⟨40, _⟩ => ⟨S4096x128, .f32⟩
  | .hbm, ⟨41, _⟩ => ⟨S1x4096x1x128, .f32⟩
  | .hbm, ⟨42, _⟩ => ⟨S1x4096x1x128, .f32⟩
  | .hbm, ⟨43, _⟩ => ⟨S4096x128, .f32⟩
  | .hbm, ⟨44, _⟩ => ⟨S8x4096x1024, .bf16⟩
  | .hbm, ⟨45, _⟩ => ⟨S8x4096x256, .bf16⟩
  | .hbm, ⟨46, _⟩ => ⟨S8x4096x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x1536, .bf16⟩
  | .local _ .vmem, ⟨5, _⟩ => ⟨S2x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38_0 : Ref sig .tc := ⟨.hbm, 44, rfl⟩
abbrev main_v38_1 : Ref sig .tc := ⟨.hbm, 45, rfl⟩
abbrev main_v38_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S8x4096x1024 : Shape := ⟨3, ![8, 4096, 1024]⟩
abbrev S8x9x1024 : Shape := ⟨3, ![8, 9, 1024]⟩
abbrev S1024x1536 : Shape := ⟨2, ![1024, 1536]⟩
abbrev S2x128 : Shape := ⟨2, ![2, 128]⟩
abbrev S_ : Shape := ⟨0, ![]⟩
abbrev S8x4096 : Shape := ⟨2, ![8, 4096]⟩
abbrev S8x4096x1 : Shape := ⟨3, ![8, 4096, 1]⟩
abbrev S8x1x1024 : Shape := ⟨3, ![8, 1, 1024]⟩
abbrev S8x4096x1536 : Shape := ⟨3, ![8, 4096, 1536]⟩
abbrev S8x4096x8x128 : Shape := ⟨4, ![8, 4096, 8, 128]⟩
abbrev S1x128 : Shape := ⟨2, ![1, 128]⟩
abbrev S128 : Shape := ⟨1, ![128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x256 : Shape := ⟨3, ![8, 4096, 256]⟩
abbrev S8x4096x2x128 : Shape := ⟨4, ![8, 4096, 2, 128]⟩
abbrev S8x4096x2 : Shape := ⟨3, ![8, 4096, 2]⟩
abbrev S8x4096x2x1 : Shape := ⟨4, ![8, 4096, 2, 1]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x1x64 : Shape := ⟨3, ![4096, 1, 64]⟩
abbrev S8x4096x8x64 : Shape := ⟨4, ![8, 4096, 8, 64]⟩
abbrev S1x4096x1x64 : Shape := ⟨4, ![1, 4096, 1, 64]⟩
abbrev S8x4096x2x64 : Shape := ⟨4, ![8, 4096, 2, 64]⟩

abbrev nBuf : Space → Nat
  | .hbm => 144
  | .vmem => 0
  | .smem => 0
  | _ => 0

abbrev hbmTy0_0 (i : Nat) : BufTy := match i % 128 with
  | 0 => ⟨S8x4096x1024, .f32⟩
  | 1 => ⟨S8x9x1024, .f32⟩
  | 2 => ⟨S1024x1536, .f32⟩
  | 3 => ⟨S2x128, .f32⟩
  | 4 => ⟨S8x4096x1024, .f32⟩
  | 5 => ⟨S_, .f32⟩
  | 6 => ⟨S8x4096, .f32⟩
  | 7 => ⟨S8x4096x1, .f32⟩
  | 8 => ⟨S_, .f32⟩
  | 9 => ⟨S8x4096x1, .f32⟩
  | 10 => ⟨S8x4096x1, .f32⟩
  | 11 => ⟨S_, .f32⟩
  | 12 => ⟨S8x4096x1, .f32⟩
  | 13 => ⟨S8x4096x1, .f32⟩
  | 14 => ⟨S8x4096x1, .f32⟩
  | 15 => ⟨S8x4096x1024, .f32⟩
  | 16 => ⟨S8x4096x1024, .f32⟩
  | 17 => ⟨S8x1x1024, .f32⟩
  | 18 => ⟨S_, .f32⟩
  | 19 => ⟨S8x1x1024, .f32⟩
  | 20 => ⟨S8x1x1024, .f32⟩
  | 21 => ⟨S8x4096x1024, .f32⟩
  | 22 => ⟨S8x4096x1024, .f32⟩
  | 23 => ⟨S8x1x1024, .f32⟩
  | 24 => ⟨S8x4096x1024, .f32⟩
  | 25 => ⟨S8x4096x1024, .f32⟩
  | 26 => ⟨S8x4096x1536, .f32⟩
  | 27 => ⟨S8x4096x1024, .f32⟩
  | 28 => ⟨S8x4096x8x128, .f32⟩
  | 29 => ⟨S1x128, .f32⟩
  | 30 => ⟨S128, .f32⟩
  | 31 => ⟨S8x4096x8x128, .f32⟩
  | 32 => ⟨S_, .f32⟩
  | 33 => ⟨S8x4096x8, .f32⟩
  | 34 => ⟨S8x4096x8x1, .f32⟩
  | 35 => ⟨S_, .f32⟩
  | 36 => ⟨S8x4096x8x1, .f32⟩
  | 37 => ⟨S8x4096x8x1, .f32⟩
  | 38 => ⟨S_, .f32⟩
  | 39 => ⟨S8x4096x8x1, .f32⟩
  | 40 => ⟨S8x4096x8x1, .f32⟩
  | 41 => ⟨S8x4096x8x1, .f32⟩
  | 42 => ⟨S8x4096x8x128, .f32⟩
  | 43 => ⟨S8x4096x8x128, .f32⟩
  | 44 => ⟨S1x1x1x128, .f32⟩
  | 45 => ⟨S8x4096x8x128, .f32⟩
  | 46 => ⟨S8x4096x8x128, .f32⟩
  | 47 => ⟨S8x4096x256, .f32⟩
  | 48 => ⟨S8x4096x2x128, .f32⟩
  | 49 => ⟨S1x128, .f32⟩
  | 50 => ⟨S128, .f32⟩
  | 51 => ⟨S8x4096x2x128, .f32⟩
  | 52 => ⟨S_, .f32⟩
  | 53 => ⟨S8x4096x2, .f32⟩
  | 54 => ⟨S8x4096x2x1, .f32⟩
  | 55 => ⟨S_, .f32⟩
  | 56 => ⟨S8x4096x2x1, .f32⟩
  | 57 => ⟨S8x4096x2x1, .f32⟩
  | 58 => ⟨S_, .f32⟩
  | 59 => ⟨S8x4096x2x1, .f32⟩
  | 60 => ⟨S8x4096x2x1, .f32⟩
  | 61 => ⟨S8x4096x2x1, .f32⟩
  | 62 => ⟨S8x4096x2x128, .f32⟩
  | 63 => ⟨S8x4096x2x128, .f32⟩
  | 64 => ⟨S1x1x1x128, .f32⟩
  | 65 => ⟨S8x4096x2x128, .f32⟩
  | 66 => ⟨S8x4096x2x128, .f32⟩
  | 67 => ⟨S64, .i32⟩
  | 68 => ⟨S64x64, .i32⟩
  | 69 => ⟨S4096, .i32⟩
  | 70 => ⟨S4096, .f32⟩
  | 71 => ⟨S64, .i32⟩
  | 72 => ⟨S1x64, .i32⟩
  | 73 => ⟨S64x64, .i32⟩
  | 74 => ⟨S4096, .i32⟩
  | 75 => ⟨S4096, .f32⟩
  | 76 => ⟨S32, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S4096x1, .f32⟩
  | 85 => ⟨S1x32, .f32⟩
  | 86 => ⟨S4096x32, .f32⟩
  | 87 => ⟨S4096x32, .f32⟩
  | 88 => ⟨S4096x32, .f32⟩
  | 89 => ⟨S4096x1, .f32⟩
  | 90 => ⟨S1x32, .f32⟩
  | 91 => ⟨S4096x32, .f32⟩
  | 92 => ⟨S4096x32, .f32⟩
  | 93 => ⟨S4096x32, .f32⟩
  | 94 => ⟨S4096x64, .f32⟩
  | 95 => ⟨S4096x64, .f32⟩
  | 96 => ⟨S4096x64, .f32⟩
  | 97 => ⟨S4096x1x64, .f32⟩
  | 98 => ⟨S4096x1x64, .f32⟩
  | 99 => ⟨S8x4096x8x64, .f32⟩
  | 100 => ⟨S8x4096x8x64, .f32⟩
  | 101 => ⟨S1x4096x1x64, .f32⟩
  | 102 => ⟨S8x4096x8x64, .f32⟩
  | 103 => ⟨S8x4096x8x64, .f32⟩
  | 104 => ⟨S1x4096x1x64, .f32⟩
  | 105 => ⟨S8x4096x8x64, .f32⟩
  | 106 => ⟨S8x4096x8x64, .f32⟩
  | 107 => ⟨S8x4096x8x64, .f32⟩
  | 108 => ⟨S1x4096x1x64, .f32⟩
  | 109 => ⟨S8x4096x8x64, .f32⟩
  | 110 => ⟨S8x4096x8x64, .f32⟩
  | 111 => ⟨S1x4096x1x64, .f32⟩
  | 112 => ⟨S8x4096x8x64, .f32⟩
  | 113 => ⟨S8x4096x8x64, .f32⟩
  | 114 => ⟨S8x4096x8x64, .f32⟩
  | 115 => ⟨S8x4096x8x128, .f32⟩
  | 116 => ⟨S_, .f32⟩
  | 117 => ⟨S8x4096x8x128, .f32⟩
  | 118 => ⟨S8x4096x8x128, .f32⟩
  | 119 => ⟨S4096x1x64, .f32⟩
  | 120 => ⟨S4096x1x64, .f32⟩
  | 121 => ⟨S8x4096x2x64, .f32⟩
  | 122 => ⟨S8x4096x2x64, .f32⟩
  | 123 => ⟨S1x4096x1x64, .f32⟩
  | 124 => ⟨S8x4096x2x64, .f32⟩
  | 125 => ⟨S8x4096x2x64, .f32⟩
  | 126 => ⟨S1x4096x1x64, .f32⟩
  | 127 => ⟨S8x4096x2x64, .f32⟩
  | _ => ⟨S8x4096x1024, .f32⟩

abbrev hbmTy0_1 (i : Nat) : BufTy := match i % 128 with
  | 0 => ⟨S8x4096x2x64, .f32⟩
  | 1 => ⟨S8x4096x2x64, .f32⟩
  | 2 => ⟨S1x4096x1x64, .f32⟩
  | 3 => ⟨S8x4096x2x64, .f32⟩
  | 4 => ⟨S8x4096x2x64, .f32⟩
  | 5 => ⟨S1x4096x1x64, .f32⟩
  | 6 => ⟨S8x4096x2x64, .f32⟩
  | 7 => ⟨S8x4096x2x64, .f32⟩
  | 8 => ⟨S8x4096x2x64, .f32⟩
  | 9 => ⟨S8x4096x2x128, .f32⟩
  | 10 => ⟨S8x4096x256, .f32⟩
  | 11 => ⟨S8x4096x1024, .f32⟩
  | 12 => ⟨S8x4096x1024, .bf16⟩
  | 13 => ⟨S8x4096x256, .f32⟩
  | 14 => ⟨S8x4096x256, .bf16⟩
  | 15 => ⟨S8x4096x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_9 : Ref sig .tc := ⟨.hbm, 78, rfl⟩
abbrev main_v64 : Ref sig .tc := ⟨.hbm, 79, rfl⟩
abbrev main_v65 : Ref sig .tc := ⟨.hbm, 80, rfl⟩
abbrev main_cst_10 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_11 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩

abbrev nD : Nat := 1
abbrev τ : Topo := Topo.v7x

variable {F : FTy → Type} [FloatOps F]
-- ==== Proof.FfnRow.lean ====
/- One row of a feed-forward half step on extended reals, and the law that the kernel's grouping of the hidden
   columns does not change the sum over them. Nothing here mentions a program. -/
module

public import Idealize.ShloMosaic.Lib.Pointwise

@[expose] public section

noncomputable section

namespace Cert.Ffn

open Idealize.ShloMosaic

/-- The factor that brings a row of 1024 numbers to root mean square one (with the constant under the root that keeps
    it finite). The two literals are the extent 1024 and 1e-6, as the program spells them. -/
def rms (x : Fin 1024 → EReal) : EReal :=
  Ideal.rsqrt (Ideal.div (∑ k, x k * x k) (Ideal.ofBits .f32 0x44800000#32) + Ideal.ofBits .f32 0x358637BD#32)

/-- The row normalised, then scaled and shifted by the conditioning. -/
def modulated (h shift scale : Fin 1024 → EReal) (d : Fin 1024) : EReal :=
  h d * rms h * (1 + scale d) + shift d

/-- The row plus the gated output projection of the mixer's row `y`. -/
def mixed (h gate y : Fin 1024 → EReal) (wo : Fin 1024 → Fin 1024 → EReal) (d : Fin 1024) : EReal :=
  h d + gate d * ∑ k, y k * wo k d

/-- One hidden unit of the gated network: the swish of the gate's product times the other product. -/
def hidden (x : Fin 1024 → EReal) (wg wu : Fin 1024 → Fin 2816 → EReal) (j : Fin 2816) : EReal :=
  (∑ k, x k * wg k j) * Ideal.logistic (∑ k, x k * wg k j) * ∑ k, x k * wu k j

/-- The row plus half the gate times the network's output. -/
def halfStep (h x gate : Fin 1024 → EReal) (wg wu : Fin 1024 → Fin 2816 → EReal) (wd : Fin 2816 → Fin 1024 → EReal)
    (d : Fin 1024) : EReal :=
  h d + Ideal.ofBits .f32 0x3F000000#32 * gate d * ∑ j, hidden x wg wu j * wd j d

/-- The last normalisation, with its gain. -/
def gained (h g : Fin 1024 → EReal) (d : Fin 1024) : EReal := h d * rms h * g d

/-- The `c`-th group of 256 of 2816 numbers, added up. -/
def group (f : Fin 2816 → EReal) (c : Fin 11) : EReal := ∑ k : Fin 256, f ⟨256 * (c : ℕ) + (k : ℕ), by omega⟩

/-- Adding the eleven groups one after the other, from zero, adds up all 2816 numbers. -/
theorem sum_groups (f : Fin 2816 → EReal) :
    0 + group f 0 + group f 1 + group f 2 + group f 3 + group f 4 + group f 5 + group f 6 + group f 7 + group f 8
      + group f 9 + group f 10 = ∑ j, f j := by
  have h : ∑ j, f j = ∑ c : Fin 11, group f c := by
    unfold group
    rw [← Fintype.sum_prod_type', ← (finProdFinEquiv : Fin 11 × Fin 256 ≃ Fin (11 * 256)).sum_comp f]
    exact Finset.sum_congr rfl fun p _ => congrArg f (Fin.ext (Nat.add_comm _ _))
  rw [h, Fin.sum_univ_castSucc, Fin.sum_univ_castSucc, Fin.sum_univ_castSucc, Fin.sum_univ_eight, zero_add]
  rfl

end Cert.Ffn

end
-- ==== Proof.FfnBlock.lean ====
/- The final feed-forward kernel's block, read at an index: one block of 512 rows is, row by row, the half step. -/
module

public import proofs.«01_k».proof.Proof.Gen.Kernel2Ideal.Value
public import proofs.«01_k».proof.Proof.FfnRow
public import Idealize.ShloMosaic.Lib.Pipeline.ValueKit
public import Idealize.ShloMosaic.Lib.Pointwise

@[expose] public section

set_option maxRecDepth 16384

noncomputable section

namespace Cert.Ffn

open Cert.Kernel2Ideal Cert.Kernel2Ideal.Gen Idealize.ShloMosaic

/-- The accumulator after one group of 256 hidden columns. -/
def chunk (x : FVec Ideal S512x1024 .bf16) (acc : FVec Ideal S512x1024 .f32)
    (wg wu : FVec Ideal S1024x256 .bf16) (wd : FVec Ideal S256x1024 .bf16) : FVec Ideal S512x1024 .f32 :=
  let g : FVec Ideal S512x256 .f32 := matmul dot_S512x1024_S1024x256_S512x256_1_0_0_1_n_n none x
    (shapeCast S1024x256 wg shapeCasts_S1024x256_S1024x256) (constant S512x256 .f32 0x00000000#32)
  let u : FVec Ideal S512x256 .f32 := matmul dot_S512x1024_S1024x256_S512x256_1_0_0_1_n_n none x
    (shapeCast S1024x256 wu shapeCasts_S1024x256_S1024x256) (constant S512x256 .f32 0x00000000#32)
  addf acc (matmul dot_S512x256_S256x1024_S512x1024_1_0_0_1_n_n none
    (truncf .bf16 (mulf (mulf g (logistic g)) u) bitsLt_bf16_f32)
    (shapeCast S256x1024 wd shapeCasts_S256x1024_S256x1024) (constant S512x1024 .f32 0x00000000#32))

/-- A group's contribution at an index, when its weights are columns `o …` of the whole weights. -/
theorem chunk_apply (x : FVec Ideal S512x1024 .bf16) (acc : FVec Ideal S512x1024 .f32)
    (wg wu : FVec Ideal S1024x256 .bf16) (wd : FVec Ideal S256x1024 .bf16) (r : Fin 512) (d : Fin 1024) :
    chunk x acc wg wu wd (ix2 r d) = acc (ix2 r d) + ∑ j : Fin 256,
      ((∑ k : Fin 1024, x (ix2 r k) * wg (ix2 k j)) * Ideal.logistic (∑ k : Fin 1024, x (ix2 r k) * wg (ix2 k j))
        * ∑ k : Fin 1024, x (ix2 r k) * wu (ix2 k j)) * wd (ix2 j d) := by
  pointwise [chunk]

/-- A group's contribution in terms of the whole weights: its weights are the columns (for `wd`, the rows) from
    `256 * c` on. -/
theorem chunk_group (x : FVec Ideal S512x1024 .bf16) (acc : FVec Ideal S512x1024 .f32)
    (wg wu : FVec Ideal S1024x256 .bf16) (wd : FVec Ideal S256x1024 .bf16)
    (Wg Wu : FVec Ideal S1024x2816 .bf16) (Wd : FVec Ideal S2816x1024 .bf16) (c : Fin 11)
    (hg : ∀ k (j : Fin 256), wg (ix2 k j) = Wg (ix2 k ⟨256 * (c : ℕ) + (j : ℕ), by omega⟩))
    (hu : ∀ k (j : Fin 256), wu (ix2 k j) = Wu (ix2 k ⟨256 * (c : ℕ) + (j : ℕ), by omega⟩))
    (hd : ∀ (j : Fin 256) d, wd (ix2 j d) = Wd (ix2 ⟨256 * (c : ℕ) + (j : ℕ), by omega⟩ d)) (r : Fin 512) (d : Fin 1024) :
    chunk x acc wg wu wd (ix2 r d) = acc (ix2 r d)
      + group (fun j => hidden (fun k => x (ix2 r k)) (fun k j => Wg (ix2 k j)) (fun k j => Wu (ix2 k j)) j * Wd (ix2 j d)) c := by
  rw [chunk_apply]
  simp only [hg, hu, hd]
  rfl

/-- All eleven groups, from a zero accumulator. -/
def groups (x : FVec Ideal S512x1024 .bf16) (wg wu : Vec Ideal S1024x2816 .bf16) (wd : Vec Ideal S2816x1024 .bf16) :
    FVec Ideal S512x1024 .f32 :=
  let a0 := chunk x (k0_pay4 (F := Ideal)) (View.ld wg r0_5) (View.ld wu r0_5) (View.ld wd r0_6)
  let a1 := chunk x a0 (View.ld wg r0_7) (View.ld wu r0_7) (View.ld wd r0_8)
  let a2 := chunk x a1 (View.ld wg r0_9) (View.ld wu r0_9) (View.ld wd r0_10)
  let a3 := chunk x a2 (View.ld wg r0_11) (View.ld wu r0_11) (View.ld wd r0_12)
  let a4 := chunk x a3 (View.ld wg r0_13) (View.ld wu r0_13) (View.ld wd r0_14)
  let a5 := chunk x a4 (View.ld wg r0_15) (View.ld wu r0_15) (View.ld wd r0_16)
  let a6 := chunk x a5 (View.ld wg r0_17) (View.ld wu r0_17) (View.ld wd r0_18)
  let a7 := chunk x a6 (View.ld wg r0_19) (View.ld wu r0_19) (View.ld wd r0_20)
  let a8 := chunk x a7 (View.ld wg r0_21) (View.ld wu r0_21) (View.ld wd r0_22)
  let a9 := chunk x a8 (View.ld wg r0_23) (View.ld wu r0_23) (View.ld wd r0_24)
  chunk x a9 (View.ld wg r0_25) (View.ld wu r0_25) (View.ld wd r0_26)

/-- The groups together are the sum over all 2816 hidden units. -/
theorem groups_apply (x : FVec Ideal S512x1024 .bf16) (wg wu : Vec Ideal S1024x2816 .bf16)
    (wd : Vec Ideal S2816x1024 .bf16) (r : Fin 512) (d : Fin 1024) :
    groups x wg wu wd (ix2 r d) = ∑ j, hidden (fun k => x (ix2 r k)) (fun k j => wg (ix2 k j)) (fun k j => wu (ix2 k j)) j
      * wd (ix2 j d) := by
  rw [← sum_groups]
  unfold groups
  rw [chunk_group x _ _ _ _ wg wu wd 10, chunk_group x _ _ _ _ wg wu wd 9, chunk_group x _ _ _ _ wg wu wd 8,
    chunk_group x _ _ _ _ wg wu wd 7, chunk_group x _ _ _ _ wg wu wd 6, chunk_group x _ _ _ _ wg wu wd 5,
    chunk_group x _ _ _ _ wg wu wd 4, chunk_group x _ _ _ _ wg wu wd 3, chunk_group x _ _ _ _ wg wu wd 2,
    chunk_group x _ _ _ _ wg wu wd 1, chunk_group x _ _ _ _ wg wu wd 0]
  · pointwise [k0_pay4]
  all_goals
    intro a b
    pointwise

/-- The block's last part: half the gate times the network's output onto the row, and the last normalisation. -/
def ending (h : FVec Ideal S512x1024 .f32) (a : FVec Ideal S512x1024 .f32) (gate : Vec Ideal S1x1x1024 .f32)
    (gain : Vec Ideal S1x1024 .f32) : FVec Ideal S1x512x1024 .f32 :=
  let s : FVec Ideal S512x1024 .f32 := addf h (mulf (broadcastTo S512x1024 (mulf (broadcast S1x1024 (Scalar.ofBits .f32 0x3F000000#32))
    (shapeCast S1x1024 gate shapeCasts_S1x1x1024_S1x1024)) broadcasts_S1x1024_S512x1024) a)
  let n : FVec Ideal S512 .f32 := multiReduction .add [1] S512 (mulf s s) 0x00000000#32 reduces_S512x1024_S512 (.inl rfl) rfl
  let q : FVec Ideal S512x1 .f32 := rsqrt (addf (divf (shapeCast S512x1 n shapeCasts_S512_S512x1)
    (broadcast S512x1 (Scalar.ofBits .f32 0x44800000#32))) (broadcast S512x1 (Scalar.ofBits .f32 0x358637BD#32)))
  shapeCast S1x512x1024 (mulf (mulf s (broadcastTo S512x1024 q broadcasts_S512x1_S512x1024))
    (broadcastTo S512x1024 (shapeCast S1x1024 gain shapeCasts_S1x1024_S1x1024) broadcasts_S1x1024_S512x1024))
    shapeCasts_S512x1024_S1x512x1024

theorem ending_apply (h a : FVec Ideal S512x1024 .f32) (gate : Vec Ideal S1x1x1024 .f32)
    (gain : Vec Ideal S1x1024 .f32) (r : Fin 512) (d : Fin 1024) :
    ending h a gate gain (ix3 0 r d)
      = gained (fun d => h (ix2 r d) + Ideal.ofBits .f32 0x3F000000#32 * gate (ix3 0 0 d) * a (ix2 r d)) (fun d => gain (ix2 0 d)) d := by
  pointwise [ending, gained, rms]

/-- The row after the mixer's projection. -/
theorem mixed_apply (h : Vec Ideal S1x512x1024 .f32) (g : Vec Ideal S1x1x1024 .f32) (y : Vec Ideal S1x512x1024 .bf16)
    (wo : Vec Ideal S1024x1024 .bf16) (r : Fin 512) (d : Fin 1024) :
    k0_pay2 h g y wo (ix2 r d)
      = mixed (fun d => h (ix3 0 r d)) (fun d => g (ix3 0 0 d)) (fun k => y (ix3 0 r k)) (fun k d => wo (ix2 k d)) d := by
  pointwise [k0_pay2, mixed]

/-- The network's input: that row, normalised and conditioned. -/
theorem modulated_apply (h : Vec Ideal S1x512x1024 .f32) (g : Vec Ideal S1x1x1024 .f32) (y : Vec Ideal S1x512x1024 .bf16)
    (wo : Vec Ideal S1024x1024 .bf16) (sh sc : Vec Ideal S1x1x1024 .f32) (r : Fin 512) (d : Fin 1024) :
    k0_pay3 h g y wo sh sc (ix2 r d)
      = modulated (fun d => k0_pay2 h g y wo (ix2 r d)) (fun d => sh (ix3 0 0 d)) (fun d => sc (ix3 0 0 d)) d := by
  pointwise [k0_pay3, modulated, rms]

/-- What the body stores, in terms of the parts above. -/
theorem out_eq (x0 : Vec Ideal S1x512x1024 .f32) (x1 : Vec Ideal S1x9x1024 .f32) (x2 x3 : Vec Ideal S1024x2816 .bf16)
    (x4 : Vec Ideal S2816x1024 .bf16) (x5 : Vec Ideal S1x512x1024 .bf16) (x6 : Vec Ideal S1024x1024 .bf16)
    (x7 : Vec Ideal S1x1024 .f32) :
    out0_8 x0 x1 x2 x3 x4 x5 x6 x7 = View.canon [⟨r0_0, ending
      (k0_pay2 (View.ld x0 r0_0) (View.ld x1 r0_1) (View.ld x5 r0_0) (View.ld x6 r0_2))
      (groups (k0_pay3 (View.ld x0 r0_0) (View.ld x1 r0_1) (View.ld x5 r0_0) (View.ld x6 r0_2) (View.ld x1 r0_3) (View.ld x1 r0_4))
        x2 x3 x4) (View.ld x1 r0_27) (View.ld x7 r0_28)⟩] := rfl

/-- The block the body stores, row by row. -/
theorem out_apply (x0 : Vec Ideal S1x512x1024 .f32) (x1 : Vec Ideal S1x9x1024 .f32) (x2 x3 : Vec Ideal S1024x2816 .bf16)
    (x4 : Vec Ideal S2816x1024 .bf16) (x5 : Vec Ideal S1x512x1024 .bf16) (x6 : Vec Ideal S1024x1024 .bf16)
    (x7 : Vec Ideal S1x1024 .f32) (r : Fin 512) (d : Fin 1024) :
    out0_8 x0 x1 x2 x3 x4 x5 x6 x7 (ix3 0 r d) =
      let h := mixed (fun d => x0 (ix3 0 r d)) (fun d => x1 (ix3 0 5 d)) (fun k => x5 (ix3 0 r k)) (fun k d => x6 (ix2 k d))
      gained (halfStep h (modulated h (fun d => x1 (ix3 0 6 d)) (fun d => x1 (ix3 0 7 d))) (fun d => x1 (ix3 0 8 d))
        (fun k j => x2 (ix2 k j)) (fun k j => x3 (ix2 k j)) (fun j d => x4 (ix2 j d))) (fun d => x7 (ix2 0 d)) d := by
  rw [out_eq, View.canon_unit_zero (h := by funext a; fin_cases a <;> rfl), ending_apply]
  simp only [groups_apply, modulated_apply, mixed_apply]
  pointwise
  rfl

end Cert.Ffn

end
-- ==== Proof.FfnArr.lean ====
/- The final feed-forward kernel's result array after the run: every row is the half step of the arguments' row. -/
module

public import proofs.«01_k».proof.Proof.FfnBlock

@[expose] public section

set_option maxRecDepth 16384

noncomputable section

namespace Cert.Ffn

open Cert.Kernel2Ideal Cert.Kernel2Ideal.Gen Idealize.ShloMosaic Idealize.SL.Sem Idealize.ShloMosaic.TcCoe

/-- The final half step of every row of the arrays. -/
def final (h : Vec Ideal S8x4096x1024 .f32) (mods : Vec Ideal S8x9x1024 .f32) (wg wu : Vec Ideal S1024x2816 .f32)
    (wd : Vec Ideal S2816x1024 .f32) (y : Vec Ideal S8x4096x1024 .bf16) (wo : Vec Ideal S1024x1024 .f32)
    (gain : Vec Ideal S1024 .f32) (b : Fin 8) (i : Fin 4096) (d : Fin 1024) : EReal :=
  let s := mixed (fun d => h (ix3 b i d)) (fun d => mods (ix3 b 5 d)) (fun k => y (ix3 b i k)) (fun k d => wo (ix2 k d))
  gained (halfStep s (modulated s (fun d => mods (ix3 b 6 d)) (fun d => mods (ix3 b 7 d))) (fun d => mods (ix3 b 8 d))
    (fun k j => wg (ix2 k j)) (fun k j => wu (ix2 k j)) (fun j d => wd (ix2 j d))) (fun d => gain (ix1 d)) d

/-- Where each window's block lies at a grid point. -/
theorem idx : ∀ t : Fin cfg0.N, win0_0.index t = ![(t : ℕ) / 8, (t : ℕ) % 8, 0] ∧ win0_1.index t = ![(t : ℕ) / 8, 0, 0]
    ∧ win0_2.index t = ![0, 0] ∧ win0_3.index t = ![0, 0] ∧ win0_4.index t = ![0, 0]
    ∧ win0_5.index t = ![(t : ℕ) / 8, (t : ℕ) % 8, 0] ∧ win0_6.index t = ![0, 0] ∧ win0_7.index t = ![0, 0]
    ∧ win0_8.index t = ![(t : ℕ) / 8, (t : ℕ) % 8, 0] :=
  (by decide +kernel : ∀ t : Fin grid0.N, _)

theorem points : cfg0.N = 64 := by decide +kernel

variable (m : (ℓ : Loc nD τ sig) → Buf (Elt Ideal) ℓ) (c : Dev nD) (t : Fin cfg0.N)

/-- The batch entry of a grid point. -/
def bat : Fin 8 := ⟨t / 8, by have h : (t : ℕ) < 64 := lt_of_lt_of_eq t.isLt points; omega⟩

/-- The array's row of a grid point's block row. -/
def row (r : Fin 512) : Fin 4096 := ⟨t % 8 * 512 + r, by omega⟩

theorem blk0 (r : Fin 512) (d : Fin 1024) :
    iblk m c 0 t (ix3 0 r d) = m ((c : Thread nD τ).loc main_arg0) (ix3 (bat t) (row t r) d) := by
  obtain ⟨h0, h1, h2, h3, h4, h5, h6, h7, h8⟩ := idx t
  blk_simp [iblk]
  rw [V_main_arg0]
  congr 1
  blk_ext [h0, bat, row]

theorem blk1 (r : Fin 9) (d : Fin 1024) :
    iblk m c 1 t (ix3 0 r d) = m ((c : Thread nD τ).loc main_arg1) (ix3 (bat t) r d) := by
  obtain ⟨h0, h1, h2, h3, h4, h5, h6, h7, h8⟩ := idx t
  blk_simp [iblk]
  rw [V_main_arg1]
  congr 1
  blk_ext [h1, bat, row]

theorem blk2 (k : Fin 1024) (j : Fin 2816) : iblk m c 2 t (ix2 k j) = m ((c : Thread nD τ).loc main_arg2) (ix2 k j) := by
  obtain ⟨h0, h1, h2, h3, h4, h5, h6, h7, h8⟩ := idx t
  blk_simp [iblk]
  entry_read
  pointwise
  congr 1
  blk_ext [h2]

theorem blk3 (k : Fin 1024) (j : Fin 2816) : iblk m c 3 t (ix2 k j) = m ((c : Thread nD τ).loc main_arg3) (ix2 k j) := by
  obtain ⟨h0, h1, h2, h3, h4, h5, h6, h7, h8⟩ := idx t
  blk_simp [iblk]
  entry_read
  pointwise
  congr 1
  blk_ext [h3]

theorem blk4 (j : Fin 2816) (d : Fin 1024) : iblk m c 4 t (ix2 j d) = m ((c : Thread nD τ).loc main_arg4) (ix2 j d) := by
  obtain ⟨h0, h1, h2, h3, h4, h5, h6, h7, h8⟩ := idx t
  blk_simp [iblk]
  entry_read
  pointwise
  congr 1
  blk_ext [h4]

theorem blk5 (r : Fin 512) (d : Fin 1024) :
    iblk m c 5 t (ix3 0 r d) = m ((c : Thread nD τ).loc main_arg5) (ix3 (bat t) (row t r) d) := by
  obtain ⟨h0, h1, h2, h3, h4, h5, h6, h7, h8⟩ := idx t
  blk_simp [iblk]
  rw [V_main_arg5]
  congr 1
  blk_ext [h5, bat, row]

theorem blk6 (k d : Fin 1024) : iblk m c 6 t (ix2 k d) = m ((c : Thread nD τ).loc main_arg6) (ix2 k d) := by
  obtain ⟨h0, h1, h2, h3, h4, h5, h6, h7, h8⟩ := idx t
  blk_simp [iblk]
  entry_read
  pointwise
  congr 1
  blk_ext [h6]

theorem blk7 (d : Fin 1024) : iblk m c 7 t (ix2 0 d) = m ((c : Thread nD τ).loc main_arg7) (ix1 d) := by
  obtain ⟨h0, h1, h2, h3, h4, h5, h6, h7, h8⟩ := idx t
  blk_simp [iblk]
  entry_read
  pointwise
  congr 1
  blk_ext [h7]

theorem emb8 (r : Fin 512) (d : Fin 1024) :
    ((cfg0.win 8).blk t).view.emb (ix3 0 r d) = ix3 (bat t) (row t r) d := by
  obtain ⟨h0, h1, h2, h3, h4, h5, h6, h7, h8⟩ := idx t
  blk_ext [h8, bat, row]

/-- The result array after the run. -/
theorem arr : (dats m 0 c).arrAt 8 cfg0.N = fun i =>
    final (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (i 0) (i 1) (i 2) := by
  refine (dats m 0 c).arrAt_eq_of_covers 8 _ (by decide +kernel) fun t hf y => ?_
  blk_simp
  rw [after0_8]
  idx_vars y
  obtain rfl : y0 = 0 := Subsingleton.elim _ _
  rw [out_apply]
  simp only [blk0, blk1, blk2, blk3, blk4, blk5, blk6, blk7]
  have e := emb8 t y1 y2
  blk_simp at e
  simp only [e]
  rfl

end Cert.Ffn

end
-- ==== Proof.FfnRef.lean ====
/- The reference of the final feed-forward step, read at an index: the same half step of the arguments' row. -/
module

public import proofs.«01_k».proof.Proof.FfnArr
public import proofs.«01_k».proof.Proof.Gen.Reference2Ideal.Read

@[expose] public section

set_option maxRecDepth 16384

noncomputable section

namespace Cert.Ffn

open Cert.Reference2Ideal Cert.Reference2Ideal.Gen Cert.Reference2Ideal.Read Idealize.ShloMosaic

variable (x0 : Vec Ideal S8x4096x1024 .f32) (x1 : Vec Ideal S8x9x1024 .f32) (x2 x3 : Vec Ideal S1024x2816 .f32)
    (x4 : Vec Ideal S2816x1024 .f32) (x5 : Vec Ideal S8x4096x1024 .bf16) (x6 : Vec Ideal S1024x1024 .f32)
    (x7 : Vec Ideal S1024 .f32) (b : Fin 8) (i : Fin 4096)

theorem ref_mixed (d : Fin 1024) : val_main_v13 (F := Ideal) x0 x1 x5 x6 (ix3 b i d)
    = mixed (fun d => x0 (ix3 b i d)) (fun d => x1 (ix3 b 5 d)) (fun k => x5 (ix3 b i k)) (fun k d => x6 (ix2 k d)) d := by
  pointwise [val_main_v13, val_main_v12, val_main_v11, val_main_v10, val_main_v9, val_main_v5, mixed]

theorem ref_modulated (d : Fin 1024) : val_main_v29 (F := Ideal) x0 x1 x5 x6 (ix3 b i d)
    = modulated (fun d => val_main_v13 (F := Ideal) x0 x1 x5 x6 (ix3 b i d)) (fun d => x1 (ix3 b 6 d)) (fun d => x1 (ix3 b 7 d)) d := by
  pointwise [val_main_v29, val_main_v28, val_main_v27, val_main_v26, val_main_v25, val_main_v24, val_main_cst_2, val_main_v7,
    val_main_v6, val_main_v23, val_main_v22, val_main_v21, val_main_v20, val_main_v19, val_main_v18, val_main_v17, val_main_v16,
    val_main_v15, val_main_v14, val_main_cst, val_main_cst_0, val_main_cst_1, modulated, rms]

theorem ref_hidden (j : Fin 2816) : val_main_v35 (F := Ideal) x0 x1 x2 x3 x5 x6 (ix3 b i j)
    = hidden (fun k => val_main_v29 (F := Ideal) x0 x1 x5 x6 (ix3 b i k)) (fun k j => x2 (ix2 k j)) (fun k j => x3 (ix2 k j)) j := by
  pointwise [val_main_v35, val_main_v34, val_main_v33, val_main_call0_v5, val_main_call0_v4, val_main_call0_v3, val_main_call0_v2,
    val_main_call0_v1, val_main_call0_v0, val_main_call0_cst, val_main_call0_cst_0, val_main_v32, hidden, Ideal.logistic]

theorem ref_half (d : Fin 1024) : val_main_v39 (F := Ideal) x0 x1 x2 x3 x4 x5 x6 (ix3 b i d)
    = val_main_v13 (F := Ideal) x0 x1 x5 x6 (ix3 b i d) + Ideal.ofBits .f32 0x3F000000#32 * x1 (ix3 b 8 d)
      * ∑ j, val_main_v35 (F := Ideal) x0 x1 x2 x3 x5 x6 (ix3 b i j) * x4 (ix2 j d) := by
  pointwise [val_main_v39, val_main_v38, val_main_v37, val_main_v36, val_main_v31, val_main_v30, val_main_cst_3, val_main_v8]

theorem ref_gained (d : Fin 1024) : val_main_v52 (F := Ideal) x0 x1 x2 x3 x4 x5 x6 x7 (ix3 b i d)
    = gained (fun d => val_main_v39 (F := Ideal) x0 x1 x2 x3 x4 x5 x6 (ix3 b i d)) (fun d => x7 (ix1 d)) d := by
  pointwise [val_main_v52, val_main_v51, val_main_v50, val_main_v49, val_main_v48, val_main_v47, val_main_v46, val_main_v45,
    val_main_v44, val_main_v43, val_main_v42, val_main_v41, val_main_v40, val_main_cst_4, val_main_cst_5, val_main_cst_6, gained, rms]

/-- The reference's result array. -/
theorem ref_eq : val_main_v52 (F := Ideal) x0 x1 x2 x3 x4 x5 x6 x7
    = fun i => final x0 x1 x2 x3 x4 x5 x6 x7 (i 0) (i 1) (i 2) := by
  funext i
  idx_vars i
  rw [ref_gained]
  simp only [ref_half, ref_hidden, ref_modulated, ref_mixed]
  rfl

end Cert.Ffn

end
-- ==== Proof.FfnStep.lean ====
/- The blocks of the three feed-forward kernels that do not normalise at the end: one block of 512 rows is, row by row, the
   half step. The kernels' bodies are the final kernel's without its last part, so its groups serve here too. -/
module

public import proofs.«01_k».proof.Proof.FfnBlock
public import proofs.«01_k».proof.Proof.Gen.Kernel3Ideal.Value
public import proofs.«01_k».proof.Proof.Gen.Kernel4Ideal.Value
public import proofs.«01_k».proof.Proof.Gen.Kernel5Ideal.Value

@[expose] public section

set_option maxRecDepth 16384

noncomputable section

namespace Cert.Ffn

open Cert.Kernel2Ideal Cert.Kernel2Ideal.Gen Idealize.ShloMosaic

/-- The half step without a mixer: the row, its normalised and conditioned form through the network, half the gate. -/
def plain (h shift scale gate : Fin 1024 → EReal) (wg wu : Fin 1024 → Fin 2816 → EReal) (wd : Fin 2816 → Fin 1024 → EReal) :
    Fin 1024 → EReal :=
  halfStep h (modulated h shift scale) gate wg wu wd

/-- The block's last part without normalisation: half the gate times the network's output onto the row. -/
def step (h a : FVec Ideal S512x1024 .f32) (gate : Vec Ideal S1x1x1024 .f32) : FVec Ideal S1x512x1024 .f32 :=
  shapeCast S1x512x1024 (addf h (mulf (broadcastTo S512x1024 (mulf (broadcast S1x1024 (Scalar.ofBits .f32 0x3F000000#32))
    (shapeCast S1x1024 gate shapeCasts_S1x1x1024_S1x1024)) broadcasts_S1x1024_S512x1024) a)) shapeCasts_S512x1024_S1x512x1024

theorem step_apply (h a : FVec Ideal S512x1024 .f32) (gate : Vec Ideal S1x1x1024 .f32) (r : Fin 512) (d : Fin 1024) :
    step h a gate (ix3 0 r d) = h (ix2 r d) + Ideal.ofBits .f32 0x3F000000#32 * gate (ix3 0 0 d) * a (ix2 r d) := by
  pointwise [step]

/-- The network's input without a mixer: the block's row, normalised and conditioned. -/
theorem plain_modulated (h : Vec Ideal S1x512x1024 .f32) (sh sc : Vec Ideal S1x1x1024 .f32) (r : Fin 512) (d : Fin 1024) :
    Cert.Kernel3Ideal.Gen.k0_pay3 h sh sc (ix2 r d)
      = modulated (fun d => h (ix3 0 r d)) (fun d => sh (ix3 0 0 d)) (fun d => sc (ix3 0 0 d)) d := by
  pointwise [Cert.Kernel3Ideal.Gen.k0_pay3, Cert.Kernel3Ideal.Gen.k0_pay2, modulated, rms]

/-- The whole block without a mixer, from the conditioning's three rows. -/
def plainBlock (x0 : Vec Ideal S1x512x1024 .f32) (sh sc gate : Vec Ideal S1x1x1024 .f32) (x2 x3 : Vec Ideal S1024x2816 .bf16)
    (x4 : Vec Ideal S2816x1024 .bf16) : FVec Ideal S1x512x1024 .f32 :=
  step (Cert.Kernel3Ideal.Gen.k0_pay2 (View.ld x0 r0_0))
    (groups (Cert.Kernel3Ideal.Gen.k0_pay3 (View.ld x0 r0_0) sh sc) x2 x3 x4) gate

theorem plainBlock_apply (x0 : Vec Ideal S1x512x1024 .f32) (sh sc gate : Vec Ideal S1x1x1024 .f32)
    (x2 x3 : Vec Ideal S1024x2816 .bf16) (x4 : Vec Ideal S2816x1024 .bf16) (r : Fin 512) (d : Fin 1024) :
    plainBlock x0 sh sc gate x2 x3 x4 (ix3 0 r d) = plain (fun d => x0 (ix3 0 r d)) (fun d => sh (ix3 0 0 d))
      (fun d => sc (ix3 0 0 d)) (fun d => gate (ix3 0 0 d)) (fun k j => x2 (ix2 k j)) (fun k j => x3 (ix2 k j))
      (fun j d => x4 (ix2 j d)) d := by
  rw [plainBlock, step_apply]
  simp only [groups_apply, plain_modulated]
  pointwise [Cert.Kernel3Ideal.Gen.k0_pay2]
  rfl

/-- The opening kernel's stored block. -/
theorem out3_eq (x0 : Vec Ideal S1x512x1024 .f32) (x1 : Vec Ideal S1x9x1024 .f32) (x2 x3 : Vec Ideal S1024x2816 .bf16)
    (x4 : Vec Ideal S2816x1024 .bf16) :
    Cert.Kernel3Ideal.Gen.out0_5 x0 x1 x2 x3 x4 = View.canon [⟨Cert.Kernel3Ideal.Gen.r0_0,
      plainBlock x0 (View.ld x1 Cert.Kernel3Ideal.Gen.r0_1) (View.ld x1 Cert.Kernel3Ideal.Gen.r0_2)
        (View.ld x1 Cert.Kernel3Ideal.Gen.r0_25) x2 x3 x4⟩] := rfl

/-- The opening kernel's block, row by row: the conditioning's rows 0, 1 and 2. -/
theorem out3_apply (x0 : Vec Ideal S1x512x1024 .f32) (x1 : Vec Ideal S1x9x1024 .f32) (x2 x3 : Vec Ideal S1024x2816 .bf16)
    (x4 : Vec Ideal S2816x1024 .bf16) (r : Fin 512) (d : Fin 1024) :
    Cert.Kernel3Ideal.Gen.out0_5 x0 x1 x2 x3 x4 (ix3 0 r d) = plain (fun d => x0 (ix3 0 r d)) (fun d => x1 (ix3 0 0 d))
      (fun d => x1 (ix3 0 1 d)) (fun d => x1 (ix3 0 2 d)) (fun k j => x2 (ix2 k j)) (fun k j => x3 (ix2 k j))
      (fun j d => x4 (ix2 j d)) d := by
  rw [out3_eq, View.canon_unit_zero (h := by funext a; fin_cases a <;> rfl), plainBlock_apply]
  pointwise

/-- The closing kernel's stored block. -/
theorem out5_eq (x0 : Vec Ideal S1x512x1024 .f32) (x1 : Vec Ideal S1x9x1024 .f32) (x2 x3 : Vec Ideal S1024x2816 .bf16)
    (x4 : Vec Ideal S2816x1024 .bf16) :
    Cert.Kernel5Ideal.Gen.out0_5 x0 x1 x2 x3 x4 = View.canon [⟨Cert.Kernel5Ideal.Gen.r0_0,
      plainBlock x0 (View.ld x1 Cert.Kernel5Ideal.Gen.r0_1) (View.ld x1 Cert.Kernel5Ideal.Gen.r0_2)
        (View.ld x1 Cert.Kernel5Ideal.Gen.r0_25) x2 x3 x4⟩] := rfl

/-- The closing kernel's block, row by row: the conditioning's rows 6, 7 and 8. -/
theorem out5_apply (x0 : Vec Ideal S1x512x1024 .f32) (x1 : Vec Ideal S1x9x1024 .f32) (x2 x3 : Vec Ideal S1024x2816 .bf16)
    (x4 : Vec Ideal S2816x1024 .bf16) (r : Fin 512) (d : Fin 1024) :
    Cert.Kernel5Ideal.Gen.out0_5 x0 x1 x2 x3 x4 (ix3 0 r d) = plain (fun d => x0 (ix3 0 r d)) (fun d => x1 (ix3 0 6 d))
      (fun d => x1 (ix3 0 7 d)) (fun d => x1 (ix3 0 8 d)) (fun k j => x2 (ix2 k j)) (fun k j => x3 (ix2 k j))
      (fun j d => x4 (ix2 j d)) d := by
  rw [out5_eq, View.canon_unit_zero (h := by funext a; fin_cases a <;> rfl), plainBlock_apply]
  pointwise

/-- The inner kernel's stored block: the final kernel's parts, without the last normalisation. -/
theorem out4_eq (x0 : Vec Ideal S1x512x1024 .f32) (x1 : Vec Ideal S1x9x1024 .f32) (x2 x3 : Vec Ideal S1024x2816 .bf16)
    (x4 : Vec Ideal S2816x1024 .bf16) (x5 : Vec Ideal S1x512x1024 .bf16) (x6 : Vec Ideal S1024x1024 .bf16) :
    Cert.Kernel4Ideal.Gen.out0_7 x0 x1 x2 x3 x4 x5 x6 = View.canon [⟨Cert.Kernel4Ideal.Gen.r0_0, step
      (k0_pay2 (View.ld x0 r0_0) (View.ld x1 r0_1) (View.ld x5 r0_0) (View.ld x6 r0_2))
      (groups (k0_pay3 (View.ld x0 r0_0) (View.ld x1 r0_1) (View.ld x5 r0_0) (View.ld x6 r0_2) (View.ld x1 r0_3) (View.ld x1 r0_4))
        x2 x3 x4) (View.ld x1 r0_27)⟩] := rfl

/-- The inner kernel's block, row by row: the half step of the row with the mixer's projection added. -/
theorem out4_apply (x0 : Vec Ideal S1x512x1024 .f32) (x1 : Vec Ideal S1x9x1024 .f32) (x2 x3 : Vec Ideal S1024x2816 .bf16)
    (x4 : Vec Ideal S2816x1024 .bf16) (x5 : Vec Ideal S1x512x1024 .bf16) (x6 : Vec Ideal S1024x1024 .bf16)
    (r : Fin 512) (d : Fin 1024) :
    Cert.Kernel4Ideal.Gen.out0_7 x0 x1 x2 x3 x4 x5 x6 (ix3 0 r d) =
      plain (mixed (fun d => x0 (ix3 0 r d)) (fun d => x1 (ix3 0 5 d)) (fun k => x5 (ix3 0 r k)) (fun k d => x6 (ix2 k d)))
        (fun d => x1 (ix3 0 6 d)) (fun d => x1 (ix3 0 7 d)) (fun d => x1 (ix3 0 8 d))
        (fun k j => x2 (ix2 k j)) (fun k j => x3 (ix2 k j)) (fun j d => x4 (ix2 j d)) d := by
  rw [out4_eq, View.canon_unit_zero (h := by funext a; fin_cases a <;> rfl), step_apply]
  simp only [groups_apply, modulated_apply, mixed_apply]
  pointwise
  rfl

end Cert.Ffn

end
-- ==== Proof.FfnInner.lean ====
/- The inner layers' second feed-forward kernel: its result array after the run, and its reference, which are the same half
   step of every row of the arguments. -/
module

public import proofs.«01_k».proof.Proof.FfnStep
public import proofs.«01_k».proof.Proof.FfnRef
public import proofs.«01_k».proof.Proof.Gen.Reference4Ideal.Read

@[expose] public section

set_option maxRecDepth 16384

noncomputable section

namespace Cert.Ffn.Inner

open Cert.Kernel4Ideal Cert.Kernel4Ideal.Gen Idealize.ShloMosaic Idealize.SL.Sem Idealize.ShloMosaic.TcCoe

/-- The half step of every row of the arrays, with the mixer's projection. -/
def result (h : Vec Ideal S8x4096x1024 .f32) (mods : Vec Ideal S8x9x1024 .f32) (wg wu : Vec Ideal S1024x2816 .f32)
    (wd : Vec Ideal S2816x1024 .f32) (y : Vec Ideal S8x4096x1024 .bf16) (wo : Vec Ideal S1024x1024 .f32)
    (b : Fin 8) (i : Fin 4096) : Fin 1024 → EReal :=
  plain (mixed (fun d => h (ix3 b i d)) (fun d => mods (ix3 b 5 d)) (fun k => y (ix3 b i k)) (fun k d => wo (ix2 k d)))
    (fun d => mods (ix3 b 6 d)) (fun d => mods (ix3 b 7 d)) (fun d => mods (ix3 b 8 d))
    (fun k j => wg (ix2 k j)) (fun k j => wu (ix2 k j)) (fun j d => wd (ix2 j d))

/-- Where each window's block lies at a grid point. -/
theorem idx : ∀ t : Fin cfg0.N, win0_0.index t = ![(t : ℕ) / 8, (t : ℕ) % 8, 0] ∧ win0_1.index t = ![(t : ℕ) / 8, 0, 0]
    ∧ win0_2.index t = ![0, 0] ∧ win0_3.index t = ![0, 0] ∧ win0_4.index t = ![0, 0]
    ∧ win0_5.index t = ![(t : ℕ) / 8, (t : ℕ) % 8, 0] ∧ win0_6.index t = ![0, 0]
    ∧ win0_7.index t = ![(t : ℕ) / 8, (t : ℕ) % 8, 0] :=
  (by decide +kernel : ∀ t : Fin grid0.N, _)

variable (m : (ℓ : Loc nD τ sig) → Buf (Elt Ideal) ℓ) (c : Dev nD) (t : Fin cfg0.N)

theorem blk0 (r : Fin 512) (d : Fin 1024) :
    iblk m c 0 t (ix3 0 r d) = m ((c : Thread nD τ).loc main_arg0) (ix3 (bat t) (row t r) d) := by
  obtain ⟨h0, h1, h2, h3, h4, h5, h6, h7⟩ := idx t
  blk_simp [iblk]
  rw [V_main_arg0]
  congr 1
  blk_ext [h0, bat, row]

theorem blk1 (r : Fin 9) (d : Fin 1024) :
    iblk m c 1 t (ix3 0 r d) = m ((c : Thread nD τ).loc main_arg1) (ix3 (bat t) r d) := by
  obtain ⟨h0, h1, h2, h3, h4, h5, h6, h7⟩ := idx t
  blk_simp [iblk]
  rw [V_main_arg1]
  congr 1
  blk_ext [h1, bat, row]

theorem blk2 (k : Fin 1024) (j : Fin 2816) : iblk m c 2 t (ix2 k j) = m ((c : Thread nD τ).loc main_arg2) (ix2 k j) := by
  obtain ⟨h0, h1, h2, h3, h4, h5, h6, h7⟩ := idx t
  blk_simp [iblk]
  entry_read
  pointwise
  congr 1
  blk_ext [h2]

theorem blk3 (k : Fin 1024) (j : Fin 2816) : iblk m c 3 t (ix2 k j) = m ((c : Thread nD τ).loc main_arg3) (ix2 k j) := by
  obtain ⟨h0, h1, h2, h3, h4, h5, h6, h7⟩ := idx t
  blk_simp [iblk]
  entry_read
  pointwise
  congr 1
  blk_ext [h3]

theorem blk4 (j : Fin 2816) (d : Fin 1024) : iblk m c 4 t (ix2 j d) = m ((c : Thread nD τ).loc main_arg4) (ix2 j d) := by
  obtain ⟨h0, h1, h2, h3, h4, h5, h6, h7⟩ := idx t
  blk_simp [iblk]
  entry_read
  pointwise
  congr 1
  blk_ext [h4]

theorem blk5 (r : Fin 512) (d : Fin 1024) :
    iblk m c 5 t (ix3 0 r d) = m ((c : Thread nD τ).loc main_arg5) (ix3 (bat t) (row t r) d) := by
  obtain ⟨h0, h1, h2, h3, h4, h5, h6, h7⟩ := idx t
  blk_simp [iblk]
  rw [V_main_arg5]
  congr 1
  blk_ext [h5, bat, row]

theorem blk6 (k d : Fin 1024) : iblk m c 6 t (ix2 k d) = m ((c : Thread nD τ).loc main_arg6) (ix2 k d) := by
  obtain ⟨h0, h1, h2, h3, h4, h5, h6, h7⟩ := idx t
  blk_simp [iblk]
  entry_read
  pointwise
  congr 1
  blk_ext [h6]

theorem emb7 (r : Fin 512) (d : Fin 1024) :
    ((cfg0.win 7).blk t).view.emb (ix3 0 r d) = ix3 (bat t) (row t r) d := by
  obtain ⟨h0, h1, h2, h3, h4, h5, h6, h7⟩ := idx t
  blk_ext [h7, bat, row]

/-- The result array after the run. -/
theorem arr : (dats m 0 c).arrAt 7 cfg0.N = fun i =>
    result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (i 0) (i 1) (i 2) := by
  refine (dats m 0 c).arrAt_eq_of_covers 7 _ (by decide +kernel) fun t hf y => ?_
  blk_simp
  rw [after0_7]
  idx_vars y
  obtain rfl : y0 = 0 := Subsingleton.elim _ _
  rw [out4_apply]
  simp only [blk0, blk1, blk2, blk3, blk4, blk5, blk6]
  have e := emb7 t y1 y2
  blk_simp at e
  simp only [e]
  rfl

/-- The reference's result is the final reference's row before the last normalisation. -/
theorem ref_half_eq (x0 : Vec Ideal S8x4096x1024 .f32) (x1 : Vec Ideal S8x9x1024 .f32) (x2 x3 : Vec Ideal S1024x2816 .f32)
    (x4 : Vec Ideal S2816x1024 .f32) (x5 : Vec Ideal S8x4096x1024 .bf16) (x6 : Vec Ideal S1024x1024 .f32) :
    Cert.Reference4Ideal.Read.val_main_v39 (F := Ideal) x0 x1 x2 x3 x4 x5 x6
      = Cert.Reference2Ideal.Read.val_main_v39 (F := Ideal) x0 x1 x2 x3 x4 x5 x6 := rfl

/-- The reference's result array. -/
theorem ref_eq (x0 : Vec Ideal S8x4096x1024 .f32) (x1 : Vec Ideal S8x9x1024 .f32) (x2 x3 : Vec Ideal S1024x2816 .f32)
    (x4 : Vec Ideal S2816x1024 .f32) (x5 : Vec Ideal S8x4096x1024 .bf16) (x6 : Vec Ideal S1024x1024 .f32) :
    Cert.Reference4Ideal.Read.val_main_v39 (F := Ideal) x0 x1 x2 x3 x4 x5 x6
      = fun i => result x0 x1 x2 x3 x4 x5 x6 (i 0) (i 1) (i 2) := by
  rw [ref_half_eq]
  funext i
  idx_vars i
  rw [ref_half]
  simp only [ref_hidden, ref_modulated, ref_mixed]
  rfl

end Cert.Ffn.Inner

end
-- ==== Proof.FfnPlain.lean ====
/- The result arrays of the opening and the closing feed-forward kernels after the run: every row is the half step of the
   arguments' row. The two kernels differ only in the rows of the conditioning they read. -/
module

public import proofs.«01_k».proof.Proof.FfnStep
public import proofs.«01_k».proof.Proof.FfnArr

@[expose] public section

set_option maxRecDepth 16384

noncomputable section

namespace Cert.Ffn.Plain

open Idealize.ShloMosaic Idealize.SL.Sem Idealize.ShloMosaic.TcCoe

section Opening

open Cert.Kernel3Ideal Cert.Kernel3Ideal.Gen

/-- The half step of every row of the arrays, with the conditioning's rows `o`, `o + 1` and `o + 2`. -/
def result (o : Fin 7) (h : Vec Ideal S8x4096x1024 .f32) (mods : Vec Ideal S8x9x1024 .f32) (wg wu : Vec Ideal S1024x2816 .f32)
    (wd : Vec Ideal S2816x1024 .f32) (b : Fin 8) (i : Fin 4096) : Fin 1024 → EReal :=
  plain (fun d => h (ix3 b i d)) (fun d => mods (ix3 b ⟨o, by omega⟩ d)) (fun d => mods (ix3 b ⟨o + 1, by omega⟩ d))
    (fun d => mods (ix3 b ⟨o + 2, by omega⟩ d)) (fun k j => wg (ix2 k j)) (fun k j => wu (ix2 k j)) (fun j d => wd (ix2 j d))

/-- Where each window's block lies at a grid point. -/
theorem idx : ∀ t : Fin cfg0.N, win0_0.index t = ![(t : ℕ) / 8, (t : ℕ) % 8, 0] ∧ win0_1.index t = ![(t : ℕ) / 8, 0, 0]
    ∧ win0_2.index t = ![0, 0] ∧ win0_3.index t = ![0, 0] ∧ win0_4.index t = ![0, 0]
    ∧ win0_5.index t = ![(t : ℕ) / 8, (t : ℕ) % 8, 0] :=
  (by decide +kernel : ∀ t : Fin grid0.N, _)

variable (m : (ℓ : Loc nD τ sig) → Buf (Elt Ideal) ℓ) (c : Dev nD) (t : Fin cfg0.N)

theorem blk0 (r : Fin 512) (d : Fin 1024) :
    iblk m c 0 t (ix3 0 r d) = m ((c : Thread nD τ).loc main_arg0) (ix3 (bat t) (row t r) d) := by
  obtain ⟨h0, h1, h2, h3, h4, h5⟩ := idx t
  blk_simp [iblk]
  rw [V_main_arg0]
  congr 1
  blk_ext [h0, bat, row]

theorem blk1 (r : Fin 9) (d : Fin 1024) :
    iblk m c 1 t (ix3 0 r d) = m ((c : Thread nD τ).loc main_arg1) (ix3 (bat t) r d) := by
  obtain ⟨h0, h1, h2, h3, h4, h5⟩ := idx t
  blk_simp [iblk]
  rw [V_main_arg1]
  congr 1
  blk_ext [h1, bat, row]

theorem blk2 (k : Fin 1024) (j : Fin 2816) : iblk m c 2 t (ix2 k j) = m ((c : Thread nD τ).loc main_arg2) (ix2 k j) := by
  obtain ⟨h0, h1, h2, h3, h4, h5⟩ := idx t
  blk_simp [iblk]
  entry_read
  pointwise
  congr 1
  blk_ext [h2]

theorem blk3 (k : Fin 1024) (j : Fin 2816) : iblk m c 3 t (ix2 k j) = m ((c : Thread nD τ).loc main_arg3) (ix2 k j) := by
  obtain ⟨h0, h1, h2, h3, h4, h5⟩ := idx t
  blk_simp [iblk]
  entry_read
  pointwise
  congr 1
  blk_ext [h3]

theorem blk4 (j : Fin 2816) (d : Fin 1024) : iblk m c 4 t (ix2 j d) = m ((c : Thread nD τ).loc main_arg4) (ix2 j d) := by
  obtain ⟨h0, h1, h2, h3, h4, h5⟩ := idx t
  blk_simp [iblk]
  entry_read
  pointwise
  congr 1
  blk_ext [h4]

theorem emb5 (r : Fin 512) (d : Fin 1024) :
    ((cfg0.win 5).blk t).view.emb (ix3 0 r d) = ix3 (bat t) (row t r) d := by
  obtain ⟨h0, h1, h2, h3, h4, h5⟩ := idx t
  blk_ext [h5, bat, row]

/-- The opening kernel's result array after the run. -/
theorem arr_open : (dats m 0 c).arrAt 5 cfg0.N = fun i =>
    result 0 (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) (i 2) := by
  refine (dats m 0 c).arrAt_eq_of_covers 5 _ (by decide +kernel) fun t hf y => ?_
  blk_simp
  rw [after0_5]
  idx_vars y
  obtain rfl : y0 = 0 := Subsingleton.elim _ _
  rw [out3_apply]
  simp only [blk0, blk1, blk2, blk3, blk4]
  have e := emb5 t y1 y2
  blk_simp at e
  simp only [e]
  rfl

end Opening

section Closing

open Cert.Kernel5Ideal Cert.Kernel5Ideal.Gen

variable (m : (ℓ : Loc nD τ sig) → Buf (Elt Ideal) ℓ) (c : Dev nD)

/-- The closing kernel's result array after the run. Its windows are the opening kernel's. -/
theorem arr_close : (dats m 0 c).arrAt 5 cfg0.N = fun i =>
    result 6 (m ((c : Thread nD τ).loc main_arg0)) (m ((c : Thread nD τ).loc main_arg1))
      (m ((c : Thread nD τ).loc main_arg2)) (m ((c : Thread nD τ).loc main_arg3))
      (m ((c : Thread nD τ).loc main_arg4)) (i 0) (i 1) (i 2) := by
  refine (dats m 0 c).arrAt_eq_of_covers 5 _ (by decide +kernel) fun t hf y => ?_
  blk_simp
  rw [after0_5]
  idx_vars y
  obtain rfl : y0 = 0 := Subsingleton.elim _ _
  rw [out5_apply]
  have b0 : ∀ r d, iblk m c 0 t (ix3 0 r d) = _ := blk0 m c t
  have b1 : ∀ r d, iblk m c 1 t (ix3 0 r d) = _ := blk1 m c t
  have b2 : ∀ k j, iblk m c 2 t (ix2 k j) = _ := blk2 m c t
  have b3 : ∀ k j, iblk m c 3 t (ix2 k j) = _ := blk3 m c t
  have b4 : ∀ j d, iblk m c 4 t (ix2 j d) = _ := blk4 m c t
  simp only [b0, b1, b2, b3, b4]
  have e : ((cfg0.win 5).blk t).view.emb (ix3 0 y1 y2) = _ := emb5 t y1 y2
  blk_simp at e
  simp only [e]
  rfl

end Closing

end Cert.Ffn.Plain

end
-- ==== Proof.FfnPlainRef.lean ====
/- The references of the opening and the closing feed-forward steps, read at an index: the same half step of the arguments'
   row. -/
module

public import proofs.«01_k».proof.Proof.FfnPlain
public import proofs.«01_k».proof.Proof.Gen.Reference3Ideal.Read
public import proofs.«01_k».proof.Proof.Gen.Reference5Ideal.Read

@[expose] public section

set_option maxRecDepth 16384

noncomputable section

namespace Cert.Ffn.Plain

open Idealize.ShloMosaic

section Opening

open Cert.Reference3Ideal Cert.Reference3Ideal.Gen Cert.Reference3Ideal.Read

variable (x0 : Vec Ideal S8x4096x1024 .f32) (x1 : Vec Ideal S8x9x1024 .f32) (x2 x3 : Vec Ideal S1024x2816 .f32)
    (x4 : Vec Ideal S2816x1024 .f32) (b : Fin 8) (i : Fin 4096)

theorem open_modulated (d : Fin 1024) : val_main_v24 (F := Ideal) x0 x1 (ix3 b i d)
    = modulated (fun d => x0 (ix3 b i d)) (fun d => x1 (ix3 b 0 d)) (fun d => x1 (ix3 b 1 d)) d := by
  pointwise [val_main_v24, val_main_v23, val_main_v22, val_main_v21, val_main_v20, val_main_v19, val_main_cst_2, val_main_v18,
    val_main_v17, val_main_v16, val_main_v15, val_main_v14, val_main_v13, val_main_v12, val_main_v11, val_main_v10, val_main_v9,
    val_main_v1, val_main_v0, val_main_cst, val_main_cst_0, val_main_cst_1, modulated, rms]

theorem open_hidden (j : Fin 2816) : val_main_v30 (F := Ideal) x0 x1 x2 x3 (ix3 b i j)
    = hidden (fun k => val_main_v24 (F := Ideal) x0 x1 (ix3 b i k)) (fun k j => x2 (ix2 k j)) (fun k j => x3 (ix2 k j)) j := by
  pointwise [val_main_v30, val_main_v29, val_main_v28, val_main_call0_v5, val_main_call0_v4, val_main_call0_v3, val_main_call0_v2,
    val_main_call0_v1, val_main_call0_v0, val_main_call0_cst, val_main_call0_cst_0, val_main_v27, hidden, Ideal.logistic]

theorem open_half (d : Fin 1024) : val_main_v34 (F := Ideal) x0 x1 x2 x3 x4 (ix3 b i d)
    = x0 (ix3 b i d) + Ideal.ofBits .f32 0x3F000000#32 * x1 (ix3 b 2 d)
      * ∑ j, val_main_v30 (F := Ideal) x0 x1 x2 x3 (ix3 b i j) * x4 (ix2 j d) := by
  pointwise [val_main_v34, val_main_v33, val_main_v32, val_main_v31, val_main_v26, val_main_v25, val_main_cst_3, val_main_v2]

/-- The opening reference's result array. -/
theorem ref_open : val_main_v34 (F := Ideal) x0 x1 x2 x3 x4 = fun i => result 0 x0 x1 x2 x3 x4 (i 0) (i 1) (i 2) := by
  funext i
  idx_vars i
  rw [open_half]
  simp only [open_hidden, open_modulated]
  rfl

end Opening

section Closing

open Cert.Reference5Ideal Cert.Reference5Ideal.Gen Cert.Reference5Ideal.Read

variable (x0 : Vec Ideal S8x4096x1024 .f32) (x1 : Vec Ideal S8x9x1024 .f32) (x2 x3 : Vec Ideal S1024x2816 .f32)
    (x4 : Vec Ideal S2816x1024 .f32) (b : Fin 8) (i : Fin 4096)

theorem close_modulated (d : Fin 1024) : val_main_v24 (F := Ideal) x0 x1 (ix3 b i d)
    = modulated (fun d => x0 (ix3 b i d)) (fun d => x1 (ix3 b 6 d)) (fun d => x1 (ix3 b 7 d)) d := by
  pointwise [val_main_v24, val_main_v23, val_main_v22, val_main_v21, val_main_v20, val_main_v19, val_main_cst_2, val_main_v18,
    val_main_v17, val_main_v16, val_main_v15, val_main_v14, val_main_v13, val_main_v12, val_main_v11, val_main_v10, val_main_v9,
    val_main_v7, val_main_v6, val_main_cst, val_main_cst_0, val_main_cst_1, modulated, rms]

theorem close_hidden (j : Fin 2816) : val_main_v30 (F := Ideal) x0 x1 x2 x3 (ix3 b i j)
    = hidden (fun k => val_main_v24 (F := Ideal) x0 x1 (ix3 b i k)) (fun k j => x2 (ix2 k j)) (fun k j => x3 (ix2 k j)) j := by
  pointwise [val_main_v30, val_main_v29, val_main_v28, val_main_call0_v5, val_main_call0_v4, val_main_call0_v3, val_main_call0_v2,
    val_main_call0_v1, val_main_call0_v0, val_main_call0_cst, val_main_call0_cst_0, val_main_v27, hidden, Ideal.logistic]

theorem close_half (d : Fin 1024) : val_main_v34 (F := Ideal) x0 x1 x2 x3 x4 (ix3 b i d)
    = x0 (ix3 b i d) + Ideal.ofBits .f32 0x3F000000#32 * x1 (ix3 b 8 d)
      * ∑ j, val_main_v30 (F := Ideal) x0 x1 x2 x3 (ix3 b i j) * x4 (ix2 j d) := by
  pointwise [val_main_v34, val_main_v33, val_main_v32, val_main_v31, val_main_v26, val_main_v25, val_main_cst_3, val_main_v8]

/-- The closing reference's result array. -/
theorem ref_close : val_main_v34 (F := Ideal) x0 x1 x2 x3 x4 = fun i => result 6 x0 x1 x2 x3 x4 (i 0) (i 1) (i 2) := by
  funext i
  idx_vars i
  rw [close_half]
  simp only [close_hidden, close_modulated]
  rfl

end Closing

end Cert.Ffn.Plain

end
-- ==== Proof.AttnBlock.lean ====
/- The differential attention kernel's block: what the body stores for a block of 1024 query rows, taken apart into
   eight steps of 128 rows, each of which writes its scores to the scratch array and reads them back. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Attn

open Cert.KernelIdeal Cert.KernelIdeal.Gen Idealize.ShloMosaic Idealize.ShloMosaic.TcCoe

/-- The lane numbers, which the kernel compares with 64 to tell the two halves of a head apart. -/
def lanes : IVec S128x128 32 := iota .tc S128x128 32 [1] iota_S128x128_d1_w32

/-- The scores of 128 query rows, each taken twice (its first half against the keys, then its second half), with all
    keys: the context's 256, then the latent tokens' 4096. -/
def scores (q : Vec Ideal S1x128x128 .bf16) (kc : Vec Ideal S1x256x128 .bf16) (k : Vec Ideal S1x4096x128 .bf16) :
    Vec Ideal S1x256x4352 .f32 := fun y =>
  if h : (y 2 : ℕ) < 256 then k0_pay43 lanes q kc (ix3 0 (y 1) ⟨y 2, h⟩)
  else k0_pay44 lanes q k (ix3 0 (y 1) ⟨(y 2 : ℕ) - 256, by have := (y 2).isLt; change (y 2 : ℕ) < 4352 at this; omega⟩)

/-- Where a step's scores with the context's keys lie in half `s` of the scratch. -/
abbrev InCtx (s : ℕ) : Prop := ∀ a, ![s, 0, 0] a + S1x256x256.size a ≤ S2x256x4352.size a

/-- Where its scores with the latent tokens' keys lie. -/
abbrev InLat (s : ℕ) : Prop := ∀ a, ![s, 0, 256] a + S1x256x4096.size a ≤ S2x256x4352.size a

/-- A step's two stores of scores to half `s` of the scratch, after the stores `L`. -/
def put (s : ℕ) (hc : InCtx s) (hl : InLat s) (q : Vec Ideal S1x128x128 .bf16) (kc : Vec Ideal S1x256x128 .bf16)
    (k : Vec Ideal S1x4096x128 .bf16) (L : List (View.Piece (Elt Ideal) S2x256x4352 .f32)) :
    List (View.Piece (Elt Ideal) S2x256x4352 .f32) :=
  ⟨Rect.unit ![s, 0, 256] S1x256x4096.size hl, k0_pay44 lanes q k⟩ ::
    ⟨Rect.unit ![s, 0, 0] S1x256x256.size hc, k0_pay43 lanes q kc⟩ :: L

abbrev put0 := put 0 inb_S2x256x4352_S1x256x256_0_0_0 inb_S2x256x4352_S1x256x4096_0_0_256
abbrev put1 := put 1 inb_S2x256x4352_S1x256x256_1_0_0 inb_S2x256x4352_S1x256x4096_1_0_256

/-- Half `s` of the scratch, as a rectangle. -/
abbrev half (s : ℕ) (h : ∀ a, ![s, 0, 0] a + S1x256x4352.size a ≤ S2x256x4352.size a) : LoadRect S2x256x4352 :=
  (Rect.unit (s := S2x256x4352) ![s, 0, 0] S1x256x4352.size h).toLoadRect

variable {κ : Kind} {sp : Space} (v : View sig κ sp S2x256x4352 .f32)
  (q q' : Vec Ideal S1x128x128 .bf16) (kc : Vec Ideal S1x256x128 .bf16) (k : Vec Ideal S1x4096x128 .bf16)
  (L : List (View.Piece (Elt Ideal) S2x256x4352 .f32))

theorem scores_ctx (y : S1x256x4352.Idx) (x : S1x256x256.Idx) (h1 : (y 1 : ℕ) = x 1) (h2 : (y 2 : ℕ) = x 2) :
    scores q kc k y = k0_pay43 lanes q kc x := by
  unfold scores
  rw [dif_pos (by rw [h2]; exact (x 2).isLt)]
  refine congrArg (k0_pay43 lanes q kc) (funext fun a => Fin.ext ?_)
  match a with
  | 0 => exact (congrArg Fin.val (Subsingleton.elim (α := Fin 1) _ _))
  | 1 => exact h1
  | 2 => exact h2

theorem scores_lat (y : S1x256x4352.Idx) (x : S1x256x4096.Idx) (h1 : (y 1 : ℕ) = x 1) (h2 : (y 2 : ℕ) = 256 + x 2) :
    scores q kc k y = k0_pay44 lanes q k x := by
  unfold scores
  rw [dif_neg (by omega)]
  refine congrArg (k0_pay44 lanes q k) (funext fun a => Fin.ext ?_)
  match a with
  | 0 => exact (congrArg Fin.val (Subsingleton.elim (α := Fin 1) _ _))
  | 1 => exact h1
  | 2 => exact (congrArg (· - 256) h2).trans (Nat.add_sub_cancel_left _ _)

/-- A half of the scratch, read after a step's stores to it, holds the step's scores. -/
theorem read_put (s : ℕ) (hc : InCtx s) (hl : InLat s) (h) :
    v.readCov (put s hc hl q kc k L) (half s h) = scores q kc k := by
  rw [View.readCov_eq_canon']
  funext y
  have e : ∀ a, ((half s h).idx y a : ℕ) = ![s, 0, 0] a + y a := fun a => ValueKit.rect_emb_unit_val _ _ _ y a
  have e1 : ((half s h).idx y 1 : ℕ) = y 1 := (e 1).trans (Nat.zero_add _)
  have e2 : ((half s h).idx y 2 : ℕ) = y 2 := (e 2).trans (Nat.zero_add _)
  have e0 : ((half s h).idx y 0 : ℕ) = s := (e 0).trans (by have := (y 0).isLt; change (y 0 : ℕ) < 1 at this; change s + (y 0 : ℕ) = s; omega)
  have b1 : (y 1 : ℕ) < 256 := (y 1).isLt
  have b2 : (y 2 : ℕ) < 4352 := (y 2).isLt
  refine (View.canon_append_of_piecesOf (fun z => scores q kc k (ix3 0 (z 1) (z 2))) L
    [⟨Rect.unit ![s, 0, 256] S1x256x4096.size hl, k0_pay44 lanes q k⟩, ⟨Rect.unit ![s, 0, 0] S1x256x256.size hc, k0_pay43 lanes q kc⟩]
    ⟨fun x => ?_, fun x => ?_, trivial⟩ _ ?_).trans ?_
  · refine Eq.trans ?_ (scores_lat q kc k _ x ?_ ?_).symm
    · rfl
    · exact (ValueKit.rect_emb_unit_val (s := S2x256x4352) ![s, 0, 256] S1x256x4096.size hl x 1).trans (Nat.zero_add _)
    · exact ValueKit.rect_emb_unit_val (s := S2x256x4352) ![s, 0, 256] S1x256x4096.size hl x 2
  · refine Eq.trans ?_ (scores_ctx q kc k _ x ?_ ?_).symm
    · rfl
    · exact (ValueKit.rect_emb_unit_val (s := S2x256x4352) ![s, 0, 0] S1x256x256.size hc x 1).trans (Nat.zero_add _)
    · exact (ValueKit.rect_emb_unit_val (s := S2x256x4352) ![s, 0, 0] S1x256x256.size hc x 2).trans (Nat.zero_add _)
  · by_cases hy : (y 2 : ℕ) < 256
    · refine ⟨_, List.mem_cons_of_mem _ List.mem_cons_self, (Rect.mem_set_unit (s := S2x256x4352) (inb := hc)).2 fun a => ?_⟩
      match a with
      | 0 => rw [e0]; exact ⟨le_rfl, Nat.lt_succ_self _⟩
      | 1 => rw [e1]; exact ⟨Nat.zero_le _, lt_of_lt_of_eq b1 (Nat.zero_add _).symm⟩
      | 2 => rw [e2]; exact ⟨Nat.zero_le _, lt_of_lt_of_eq hy (Nat.zero_add _).symm⟩
    · refine ⟨_, List.mem_cons_self, (Rect.mem_set_unit (s := S2x256x4352) (inb := hl)).2 fun a => ?_⟩
      match a with
      | 0 => rw [e0]; exact ⟨le_rfl, Nat.lt_succ_self _⟩
      | 1 => rw [e1]; exact ⟨Nat.zero_le _, lt_of_lt_of_eq b1 (Nat.zero_add _).symm⟩
      | 2 => rw [e2]; exact ⟨not_lt.1 hy, b2⟩
  · refine congrArg (scores q kc k) (funext fun a => Fin.ext ?_)
    match a with
    | 0 => exact (congrArg Fin.val (Subsingleton.elim (α := Fin 1) _ _))
    | 1 => exact e1
    | 2 => exact e2

/-- The same when the next step's stores to the other half came in between. -/
theorem read0 : v.readCov (put1 q' kc k (put0 q kc k L)) (half 0 inb_S2x256x4352_S1x256x4352_0_0_0) = scores q kc k := by
  rw [put1, put, View.readCov_skip _ _ _ _ _ (by decide), View.readCov_skip _ _ _ _ _ (by decide), read_put]

theorem read1 : v.readCov (put0 q' kc k (put1 q kc k L)) (half 1 inb_S2x256x4352_S1x256x4352_1_0_0) = scores q kc k := by
  rw [put0, put, View.readCov_skip _ _ _ _ _ (by decide), View.readCov_skip _ _ _ _ _ (by decide), read_put]

/-- Rows `128 * n …` of the block of 1024 query rows. -/
abbrev rows (n : ℕ) (h : ∀ a, ![0, n, 0] a + S1x128x128.size a ≤ S1x1024x128.size a) : Rect S1x1024x128 :=
  Rect.unit ![0, n, 0] S1x128x128.size h

variable (x0 : Vec Ideal S4x64 .f32) (x1 : Vec Ideal S1x128 .f32) (x2 : Vec Ideal S1x1024x128 .bf16)
  (x3 x4 : Vec Ideal S1x256x128 .bf16) (x5 x6 : Vec Ideal S1x4096x128 .bf16)

/-- What a step stores, from the scores it reads: its rows' attention, of the first half minus `lam` of the second,
    normalised. -/
def step (n : ℕ) (h : ∀ a, ![0, n, 0] a + S1x128x128.size a ≤ S1x1024x128.size a) (s : Vec Ideal S1x256x4352 .f32) :
    View.Piece (Elt Ideal) S1x1024x128 .bf16 :=
  ⟨rows n h, k0_pay45 (k0_pay1 x0) (k0_pay2 x1) s x4 x6⟩

/-- The eight steps' stores, each with the scores the scratch then holds, when the steps' query rows are `q`. -/
def steps (q : ∀ n, (∀ a, ![0, n, 0] a + S1x128x128.size a ≤ S1x1024x128.size a) → Vec Ideal S1x128x128 .bf16) :
    List (View.Piece (Elt Ideal) S1x1024x128 .bf16) :=
  let h0 := inb_S2x256x4352_S1x256x4352_0_0_0
  let h1 := inb_S2x256x4352_S1x256x4352_1_0_0
  let l0 := put0 (q 0 inb_S1x1024x128_S1x128x128_0_0_0) x3 x5 []
  let l1 := put1 (q 128 inb_S1x1024x128_S1x128x128_0_128_0) x3 x5 l0
  let l2 := put0 (q 256 inb_S1x1024x128_S1x128x128_0_256_0) x3 x5 l1
  let l3 := put1 (q 384 inb_S1x1024x128_S1x128x128_0_384_0) x3 x5 l2
  let l4 := put0 (q 512 inb_S1x1024x128_S1x128x128_0_512_0) x3 x5 l3
  let l5 := put1 (q 640 inb_S1x1024x128_S1x128x128_0_640_0) x3 x5 l4
  let l6 := put0 (q 768 inb_S1x1024x128_S1x128x128_0_768_0) x3 x5 l5
  let l7 := put1 (q 896 inb_S1x1024x128_S1x128x128_0_896_0) x3 x5 l6
  [step x0 x1 x4 x6 896 inb_S1x1024x128_S1x128x128_0_896_0 (v.readCov l7 (half 1 h1)),
    step x0 x1 x4 x6 768 inb_S1x1024x128_S1x128x128_0_768_0 (v.readCov l7 (half 0 h0)),
    step x0 x1 x4 x6 640 inb_S1x1024x128_S1x128x128_0_640_0 (v.readCov l6 (half 1 h1)),
    step x0 x1 x4 x6 512 inb_S1x1024x128_S1x128x128_0_512_0 (v.readCov l5 (half 0 h0)),
    step x0 x1 x4 x6 384 inb_S1x1024x128_S1x128x128_0_384_0 (v.readCov l4 (half 1 h1)),
    step x0 x1 x4 x6 256 inb_S1x1024x128_S1x128x128_0_256_0 (v.readCov l3 (half 0 h0)),
    step x0 x1 x4 x6 128 inb_S1x1024x128_S1x128x128_0_128_0 (v.readCov l2 (half 1 h1)),
    step x0 x1 x4 x6 0 inb_S1x1024x128_S1x128x128_0_0_0 (v.readCov l1 (half 0 h0))]

/-- Loading the whole of an array loads its contents. -/
theorem load_whole {S : Shape} {e : EltTy} (a : Memref sig .tc .vmem S e) (ha : a.IsWhole) (x : Vec Ideal S e)
    {off : Fin S.rank → ℕ} (h0 : off = fun _ => 0) (inb : ∀ a, off a + S.size a ≤ S.size a) :
    View.readAt (Elt Ideal) a.view (Rect.unit off S.size inb).toLoadRect (ha.unread x) = x := by
  rw [View.readAt_eq_ld, ha.read_unread, View.ld_unit_zero (h := h0)]

set_option maxHeartbeats 1000000 in
/-- The block that the body stores. -/
theorem out_eq (c : Dev nD) (i : grid0.Coords) (arg3 : Memref sig .tc .vmem S4x64 .f32) (harg3 : arg3.IsWhole)
    (arg4 : Memref sig .tc .vmem S1x128 .f32) (harg4 : arg4.IsWhole) (arg5 : Memref sig .tc .vmem S1x1024x128 .bf16) (harg5 : arg5.IsWhole)
    (arg6 : Memref sig .tc .vmem S1x256x128 .bf16) (harg6 : arg6.IsWhole) (arg7 : Memref sig .tc .vmem S1x256x128 .bf16) (harg7 : arg7.IsWhole)
    (arg8 : Memref sig .tc .vmem S1x4096x128 .bf16) (harg8 : arg8.IsWhole) (arg9 : Memref sig .tc .vmem S1x4096x128 .bf16) (harg9 : arg9.IsWhole)
    (arg10 : Memref sig .tc .vmem S1x1024x128 .bf16) (harg10 : arg10.IsWhole) (arg11 : Memref sig .tc .vmem S2x256x4352 .f32) (harg11 : arg11.IsWhole) :
    out0_A_7 c i arg3 harg3 arg4 harg4 arg5 harg5 arg6 harg6 arg7 harg7 arg8 harg8 arg9 harg9 arg10 harg10 arg11 harg11 x0 x1 x2 x3 x4 x5 x6 =
      View.canon (steps arg11.view x0 x1 x3 x4 x5 x6 fun n h => View.ld x2 (rows n h)) := by
  unfold out0_A_7
  rw [View.read_writes_junk_eq_canon]
  have z2 : ![0, 0] = (fun _ => 0 : Fin 2 → ℕ) := by funext a; fin_cases a <;> rfl
  have z3 : ![0, 0, 0] = (fun _ => 0 : Fin 3 → ℕ) := by funext a; fin_cases a <;> rfl
  have hk := load_whole arg8 harg8 x5 z3 inb_S1x4096x128_S1x4096x128_0_0_0
  have hv := load_whole arg9 harg9 x6 z3 inb_S1x4096x128_S1x4096x128_0_0_0
  have hkc := load_whole arg6 harg6 x3 z3 inb_S1x256x128_S1x256x128_0_0_0
  have hvc := load_whole arg7 harg7 x4 z3 inb_S1x256x128_S1x256x128_0_0_0
  have hl := load_whole arg3 harg3 x0 z2 inb_S4x64_S4x64_0_0
  have hg := load_whole arg4 harg4 x1 z2 inb_S1x128_S1x128_0_0
  have hq : (fun n h => View.ld x2 (rows n h)) = fun n h => View.readAt (Elt Ideal) arg5.view (rows n h).toLoadRect (harg5.unread x2) := by
    funext n h
    rw [View.readAt_eq_ld, harg5.read_unread]
  rw [hq]
  refine congrArg View.canon (Eq.trans (b := steps arg11.view (View.readAt (Elt Ideal) arg3.view (Rect.unit (s := S4x64) ![0, 0] S4x64.size inb_S4x64_S4x64_0_0).toLoadRect (harg3.unread x0))
     (View.readAt (Elt Ideal) arg4.view (Rect.unit (s := S1x128) ![0, 0] S1x128.size inb_S1x128_S1x128_0_0).toLoadRect (harg4.unread x1))
     (View.readAt (Elt Ideal) arg6.view (Rect.unit (s := S1x256x128) ![0, 0, 0] S1x256x128.size inb_S1x256x128_S1x256x128_0_0_0).toLoadRect (harg6.unread x3))
     (View.readAt (Elt Ideal) arg7.view (Rect.unit (s := S1x256x128) ![0, 0, 0] S1x256x128.size inb_S1x256x128_S1x256x128_0_0_0).toLoadRect (harg7.unread x4))
     (View.readAt (Elt Ideal) arg8.view (Rect.unit (s := S1x4096x128) ![0, 0, 0] S1x4096x128.size inb_S1x4096x128_S1x4096x128_0_0_0).toLoadRect (harg8.unread x5))
     (View.readAt (Elt Ideal) arg9.view (Rect.unit (s := S1x4096x128) ![0, 0, 0] S1x4096x128.size inb_S1x4096x128_S1x4096x128_0_0_0).toLoadRect (harg9.unread x6))
     (fun n h => View.readAt (Elt Ideal) arg5.view (rows n h).toLoadRect (harg5.unread x2))) ?_ ?_)
  · rfl
  · rw [hk, hv, hkc, hvc, hl, hg]

end Cert.Attn
-- ==== Proof.AttnRow.lean ====
/- One row of the differential attention, as the kernel computes it and as the reference does, and that the two agree
   where the arguments are finite. -/
module

public import Idealize.ShloMosaic.PureOps.Ideal.Laws
public import Idealize.ShloMosaic.Lib.Pointwise

@[expose] public section

set_option maxRecDepth 16384

noncomputable section

namespace Cert.Attn

open Idealize.ShloMosaic

/-- The value a maximum starts from, minus infinity. -/
abbrev low : EReal := Ideal.ofBits .f32 0xFF800000#32

/-- The context's 256 entries followed by the latent tokens' 4096. -/
def join {α : Type} (a : Fin 256 → α) (b : Fin 4096 → α) (n : Fin 4352) : α :=
  if h : (n : ℕ) < 256 then a ⟨n, h⟩ else b ⟨(n : ℕ) - 256, by omega⟩

theorem join_ctx {α : Type} (a : Fin 256 → α) (b : Fin 4096 → α) (n : Fin 256) : join a b ⟨n, by omega⟩ = a n :=
  dif_pos n.isLt

theorem join_lat {α : Type} (a : Fin 256 → α) (b : Fin 4096 → α) (n : Fin 4096) : join a b ⟨256 + n, by omega⟩ = b n :=
  (dif_neg (by simp)).trans (congrArg b (Fin.ext (Nat.add_sub_cancel_left _ _)))

/-- A sum over all keys is the context's sum plus the latent tokens'. -/
theorem sum_keys (f : Fin 4352 → EReal) :
    ∑ n, f n = (∑ n : Fin 256, f ⟨n, by omega⟩) + ∑ n : Fin 4096, f ⟨256 + n, by omega⟩ :=
  Fin.sum_univ_add (M := EReal) (a := 256) (b := 4096) f

/-- The score of a key with a row's query, over the head's first half (`o = 0`) or second (`o = 64`). -/
def score (o : ℕ) (ho : o ≤ 64) (q k : Fin 128 → EReal) : EReal :=
  ∑ j : Fin 64, q ⟨o + j, by omega⟩ * k ⟨o + j, by omega⟩

theorem lane_lt : ∀ x : Fin 128, IntOp.cmpi CmpIPredicate.slt (BitVec.ofNat 32 x) 64#32 = if (x : ℕ) < 64 then 1#1 else 0#1 := by decide

theorem lane_ge : ∀ x : Fin 128, IntOp.cmpi CmpIPredicate.sge (BitVec.ofNat 32 x) 64#32 = if (x : ℕ) < 64 then 0#1 else 1#1 := by decide

/-- A sum over a head's 128 lanes is the sum over its first 64 plus the sum over the others. -/
theorem sum_lanes (f : Fin 128 → EReal) : ∑ x, f x = (∑ j : Fin 64, f ⟨0 + j, by omega⟩) + ∑ j : Fin 64, f ⟨64 + j, by omega⟩ := by
  simp only [Nat.zero_add]
  exact Fin.sum_univ_add (M := EReal) (a := 64) (b := 64) f

/-- The product with the query's lanes from 64 on cleared is the first half's score. -/
theorem masked_lt (q k : Fin 128 → EReal) :
    ∑ x : Fin 128, Scalar.select (IntOp.cmpi CmpIPredicate.slt (BitVec.ofNat 32 x) 64#32) (q x) 0 * k x
      = score 0 (by decide) q k := by
  simp only [lane_lt, Scalar.select]
  rw [sum_lanes]
  simp [score]

/-- The product with the query's first 64 lanes cleared is the second half's score. -/
theorem masked_ge (q k : Fin 128 → EReal) :
    ∑ x : Fin 128, Scalar.select (IntOp.cmpi CmpIPredicate.sge (BitVec.ofNat 32 x) 64#32) (q x) 0 * k x
      = score 64 (by decide) q k := by
  simp only [lane_ge, Scalar.select]
  rw [sum_lanes]
  simp [score]

/-- A key's weight in the kernel: two to the power of its score below the largest. -/
def weight (s : Fin 4352 → EReal) (n : Fin 4352) : EReal := Ideal.exp2 (s n - Finset.univ.fold max low s)

/-- The kernel's weighted mean of the values. -/
def mean (s : Fin 4352 → EReal) (vc : Fin 256 → EReal) (v : Fin 4096 → EReal) : EReal :=
  Ideal.div ((∑ n : Fin 256, weight s ⟨n, by omega⟩ * vc n) + ∑ n : Fin 4096, weight s ⟨256 + n, by omega⟩ * v n) (∑ n, weight s n)

/-- The root mean square norm of a head's 128 entries, with a gain. -/
def normed (a g : Fin 128 → EReal) (d : Fin 128) : EReal :=
  a d * Ideal.rsqrt (Ideal.div (∑ e, a e * a e) (Ideal.ofBits .f32 0x43000000#32) + Ideal.ofBits .f32 0x358637BD#32) * g d

/-- A row of the kernel's result from its two rows of scores. -/
def kernelRow (lam : EReal) (g : Fin 128 → EReal) (s1 s2 : Fin 4352 → EReal) (vc : Fin 256 → Fin 128 → EReal)
    (v : Fin 4096 → Fin 128 → EReal) (d : Fin 128) : EReal :=
  normed (fun e => mean s1 (fun n => vc n e) (fun n => v n e) - lam * mean s2 (fun n => vc n e) (fun n => v n e)) g d

/-- The factor of the attention's two halves, from the four vectors of `lam_vecs`. -/
def lamOf (l : Fin 4 → Fin 64 → EReal) : EReal :=
  Ideal.exp (∑ j, l 0 j * l 1 j) - Ideal.exp (∑ j, l 2 j * l 3 j) + Ideal.ofBits .f32 0x3F0E59D5#32

/-- The reference's softmax of scores that are powers of two. -/
def soft (s : Fin 4352 → EReal) (n : Fin 4352) : EReal :=
  let t := fun n => s n * Ideal.log (Ideal.ofBits .f32 0x40000000#32)
  let e := fun n => Ideal.exp (t n - max low (Finset.univ.fold max low t))
  Ideal.div (e n) (∑ n, e n)

/-- A row of the reference's result. -/
def refRow (lam : EReal) (g : Fin 128 → EReal) (s1 s2 : Fin 4352 → EReal) (v : Fin 4352 → Fin 128 → EReal) (d : Fin 128) : EReal :=
  normed (fun e => ∑ n, v n e * (soft s1 n - lam * soft s2 n)) g d

/-! The two agree on real numbers. -/

theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

theorem div_real (a b : ℝ) (h : b ≠ 0) : Ideal.div (a : EReal) (b : EReal) = ((a / b : ℝ) : EReal) := by
  rw [Ideal.div_coe h, ← EReal.coe_mul, mul_one_div]

theorem low_eq : low = ⊥ := by
  simp [Ideal.ofBits, Ideal.ieee, -EReal.coe_mul]

/-- The largest of finitely many real numbers is a real number. -/
theorem max_real (s : Fin 4352 → ℝ) : ∃ m : ℝ, Finset.univ.fold max low (fun n => (s n : EReal)) = m := by
  have h1 : Finset.univ.fold max low (fun n => (s n : EReal)) ≠ ⊤ :=
    ne_of_lt ((Finset.fold_max_lt _).2 ⟨by rw [low_eq]; exact bot_lt_top, fun n _ => EReal.coe_lt_top _⟩)
  have h2 : Finset.univ.fold max low (fun n => (s n : EReal)) ≠ ⊥ :=
    ne_of_gt ((Finset.lt_fold_max _).2 (Or.inr ⟨0, Finset.mem_univ _, EReal.bot_lt_coe _⟩))
  exact ⟨_, (EReal.coe_toReal h1 h2).symm⟩

/-- The softmax to base two of real scores. -/
def smax (s : Fin 4352 → ℝ) (n : Fin 4352) : ℝ := (2 : ℝ) ^ s n / ∑ n, (2 : ℝ) ^ s n

theorem pow_pos' (s : Fin 4352 → ℝ) : 0 < ∑ n, (2 : ℝ) ^ s n :=
  Finset.sum_pos (fun _ _ => Real.rpow_pos_of_pos two_pos _) ⟨0, Finset.mem_univ _⟩

/-- Shifting every score leaves the softmax the same. -/
theorem smax_shift (s : Fin 4352 → ℝ) (m : ℝ) (n : Fin 4352) :
    (2 : ℝ) ^ (s n - m) / ∑ n, (2 : ℝ) ^ (s n - m) = smax s n := by
  simp only [Real.rpow_sub two_pos, ← Finset.sum_div, smax]
  exact div_div_div_cancel_right₀ (ne_of_gt (Real.rpow_pos_of_pos two_pos m)) _ _

/-- On real numbers the kernel's weighted mean is the softmax times the values. -/
theorem mean_real (s : Fin 4352 → ℝ) (vc : Fin 256 → ℝ) (v : Fin 4096 → ℝ) :
    mean (fun n => (s n : EReal)) (fun n => (vc n : EReal)) (fun n => (v n : EReal)) = ((∑ n, smax s n * join vc v n : ℝ) : EReal) := by
  obtain ⟨m, hm⟩ := max_real s
  have hw : ∀ n, weight (fun n => (s n : EReal)) n = ((2 : ℝ) ^ (s n - m) : ℝ) := fun n => by
    rw [weight, hm, ← EReal.coe_sub]
    rfl
  have hn : (∑ n : Fin 256, weight (fun n => (s n : EReal)) ⟨n, by omega⟩ * (vc n : EReal))
        + ∑ n : Fin 4096, weight (fun n => (s n : EReal)) ⟨256 + n, by omega⟩ * (v n : EReal)
      = ((∑ n, (2 : ℝ) ^ (s n - m) * join vc v n : ℝ) : EReal) := by
    rw [coe_sum, sum_keys]
    simp only [hw, join_ctx, join_lat, EReal.coe_mul]
  rw [mean, hn]
  simp only [hw]
  rw [← coe_sum, div_real _ _ (ne_of_gt (pow_pos' fun n => s n - m)), Finset.sum_div]
  refine congrArg _ (Finset.sum_congr rfl fun n _ => ?_)
  rw [← smax_shift s m n, div_mul_eq_mul_div]

theorem log_two : Ideal.log (Ideal.ofBits .f32 0x40000000#32) = (Real.log 2 : ℝ) := by
  have : Ideal.ofBits .f32 0x40000000#32 = ((2 : ℝ) : EReal) := by
    simp [Ideal.ofBits, Ideal.ieee, -EReal.coe_mul]
    norm_num
  rw [this, Ideal.log_coe, if_neg (not_le.2 two_pos)]

/-- On real numbers the reference's softmax is the softmax to base two. -/
theorem soft_real (s : Fin 4352 → ℝ) (n : Fin 4352) : soft (fun n => (s n : EReal)) n = (smax s n : EReal) := by
  obtain ⟨m, hm⟩ := max_real fun n => s n * Real.log 2
  rw [low_eq] at hm
  have hp : (0 : ℝ) < Real.log 2 := Real.log_pos one_lt_two
  have he : ∀ n, Real.exp (s n * Real.log 2 - m) = (2 : ℝ) ^ (s n - m / Real.log 2) := fun n => by
    rw [Real.rpow_def_of_pos two_pos]
    refine congrArg Real.exp ?_
    rw [mul_sub, mul_div_cancel₀ _ (ne_of_gt hp), mul_comm]
  simp only [soft, log_two, ← EReal.coe_mul, hm, low_eq, max_eq_right bot_le, ← EReal.coe_sub]
  have hx : ∀ r : ℝ, Ideal.exp (r : EReal) = (Real.exp r : EReal) := fun r => rfl
  simp only [hx, he, ← coe_sum]
  rw [div_real _ _ (ne_of_gt (pow_pos' fun n => s n - m / Real.log 2)), smax_shift]

/-- On real scores, values and factor the kernel's row is the reference's. -/
theorem row_real (lam : ℝ) (g : Fin 128 → EReal) (s1 s2 : Fin 4352 → ℝ) (vc : Fin 256 → Fin 128 → ℝ) (v : Fin 4096 → Fin 128 → ℝ) :
    kernelRow lam g (fun n => (s1 n : EReal)) (fun n => (s2 n : EReal)) (fun n e => (vc n e : EReal)) (fun n e => (v n e : EReal))
      = refRow lam g (fun n => (s1 n : EReal)) (fun n => (s2 n : EReal)) (fun n e => (join (vc · e) (v · e) n : ℝ)) := by
  funext d
  refine congrArg (fun a => normed a g d) (funext fun e => ?_)
  simp only [mean_real, soft_real]
  simp only [← EReal.coe_mul, ← EReal.coe_sub, ← coe_sum]
  refine congrArg Real.toEReal ?_
  rw [Finset.mul_sum, ← Finset.sum_sub_distrib]
  exact Finset.sum_congr rfl fun n _ => by ring

/-- A row of the kernel's result, from the row's query, the keys and the values. -/
def attnRow (lam : EReal) (g : Fin 128 → EReal) (q : Fin 128 → EReal) (kc vc : Fin 256 → Fin 128 → EReal)
    (k v : Fin 4096 → Fin 128 → EReal) (d : Fin 128) : EReal :=
  kernelRow lam (fun d => g d * Ideal.ofBits .f32 0x3EE34C57#32) (fun n => score 0 (by decide) q (join kc k n))
    (fun n => score 64 (by decide) q (join kc k n)) vc v d

/-- A row of the reference's result, from the row's query, the keys and the values. -/
def refHead (lam : EReal) (g : Fin 128 → EReal) (q : Fin 128 → EReal) (kc vc : Fin 256 → Fin 128 → EReal)
    (k v : Fin 4096 → Fin 128 → EReal) (d : Fin 128) : EReal :=
  refRow lam (fun d => g d * Ideal.ofBits .f32 0x3EE34C57#32) (fun n => score 0 (by decide) q (join kc k n))
    (fun n => score 64 (by decide) q (join kc k n)) (fun n e => join (vc · e) (v · e) n) d

/-- A value that is a real number. -/
def IsReal (x : EReal) : Prop := ∃ r : ℝ, x = r

theorem join_coe (a : Fin 256 → ℝ) (b : Fin 4096 → ℝ) (n : Fin 4352) :
    join (fun n => (a n : EReal)) (fun n => (b n : EReal)) n = (join a b n : ℝ) := by
  unfold join
  split <;> rfl

theorem join_apply {α β : Type} (a : Fin 256 → α → β) (b : Fin 4096 → α → β) (n : Fin 4352) (j : α) :
    join a b n j = join (a · j) (b · j) n := by
  unfold join
  split <;> rfl

theorem score_real (o : ℕ) (ho : o ≤ 64) (q : Fin 128 → ℝ) (kc : Fin 256 → Fin 128 → ℝ) (k : Fin 4096 → Fin 128 → ℝ) (n : Fin 4352) :
    score o ho (fun j => (q j : EReal)) (join (fun n j => (kc n j : EReal)) (fun n j => (k n j : EReal)) n)
      = ((∑ j : Fin 64, q ⟨o + j, by omega⟩ * join (kc · ⟨o + j, by omega⟩) (k · ⟨o + j, by omega⟩) n : ℝ) : EReal) := by
  rw [coe_sum]
  simp only [score, join_apply, join_coe, EReal.coe_mul]

theorem lam_real (l : Fin 4 → Fin 64 → ℝ) : IsReal (lamOf fun i j => (l i j : EReal)) := by
  have h : IsReal (Ideal.ofBits .f32 0x3F0E59D5#32) := by
    simp [Ideal.ofBits, Ideal.ieee, -EReal.coe_mul]
    exact ⟨_, rfl⟩
  obtain ⟨c, hc⟩ := h
  have hx : ∀ r : ℝ, Ideal.exp (r : EReal) = (Real.exp r : EReal) := fun r => rfl
  unfold lamOf
  simp only [hc, ← EReal.coe_mul, ← coe_sum, hx, ← EReal.coe_sub, ← EReal.coe_add]
  exact ⟨_, rfl⟩

/-- Where the vectors of `lam_vecs`, the query, the keys and the values are real numbers, the kernel's row is the reference's. -/
theorem head_real {l : Fin 4 → Fin 64 → EReal} (g : Fin 128 → EReal) {q : Fin 128 → EReal} {kc vc : Fin 256 → Fin 128 → EReal}
    {k v : Fin 4096 → Fin 128 → EReal} (hl : ∀ i j, IsReal (l i j)) (hq : ∀ j, IsReal (q j)) (hkc : ∀ n j, IsReal (kc n j))
    (hvc : ∀ n j, IsReal (vc n j)) (hk : ∀ n j, IsReal (k n j)) (hv : ∀ n j, IsReal (v n j)) (d : Fin 128) :
    attnRow (lamOf l) g q kc vc k v d = refHead (lamOf l) g q kc vc k v d := by
  choose l' hl using hl
  choose q' hq using hq
  choose kc' hkc using hkc
  choose vc' hvc using hvc
  choose k' hk using hk
  choose v' hv using hv
  obtain rfl : l = fun i j => (l' i j : EReal) := funext fun i => funext fun j => hl i j
  obtain rfl : q = fun j => (q' j : EReal) := funext hq
  obtain rfl : kc = fun n j => (kc' n j : EReal) := funext fun n => funext fun j => hkc n j
  obtain rfl : vc = fun n j => (vc' n j : EReal) := funext fun n => funext fun j => hvc n j
  obtain rfl : k = fun n j => (k' n j : EReal) := funext fun n => funext fun j => hk n j
  obtain rfl : v = fun n j => (v' n j : EReal) := funext fun n => funext fun j => hv n j
  obtain ⟨lam, hlam⟩ := lam_real l'
  rw [hlam, attnRow, refHead]
  simp only [score_real, row_real, join_coe]

end Cert.Attn
-- ==== Proof.AttnOut.lean ====
/- The differential attention kernel's block, read at an index: every row of it is the kernel's row of the blocks' entries. -/
module

public import proofs.«01_k».proof.Proof.AttnBlock
public import proofs.«01_k».proof.Proof.AttnRow

@[expose] public section

set_option maxRecDepth 16384

noncomputable section

namespace Cert.Attn

open Cert.KernelIdeal Cert.KernelIdeal.Gen Idealize.ShloMosaic Idealize.ShloMosaic.TcCoe

section Scores
variable (q : Vec Ideal S1x128x128 .bf16) (kc : Vec Ideal S1x256x128 .bf16) (k : Vec Ideal S1x4096x128 .bf16)

theorem ctx_lt (r : Fin 128) (n : Fin 256) : k0_pay43 lanes q kc (ix3 0 ⟨r, by omega⟩ n)
    = score 0 (by decide) (fun j => q (ix3 0 r j)) (fun j => kc (ix3 0 n j)) := by
  rw [← masked_lt]
  pointwise [k0_pay43, k0_pay42, lanes]

theorem ctx_ge (r : Fin 128) (n : Fin 256) : k0_pay43 lanes q kc (ix3 0 ⟨128 + r, by omega⟩ n)
    = score 64 (by decide) (fun j => q (ix3 0 r j)) (fun j => kc (ix3 0 n j)) := by
  rw [← masked_ge]
  pointwise [k0_pay43, k0_pay42, lanes]

theorem lat_lt (r : Fin 128) (n : Fin 4096) : k0_pay44 lanes q k (ix3 0 ⟨r, by omega⟩ n)
    = score 0 (by decide) (fun j => q (ix3 0 r j)) (fun j => k (ix3 0 n j)) := by
  rw [← masked_lt]
  pointwise [k0_pay44, k0_pay42, lanes]

theorem lat_ge (r : Fin 128) (n : Fin 4096) : k0_pay44 lanes q k (ix3 0 ⟨128 + r, by omega⟩ n)
    = score 64 (by decide) (fun j => q (ix3 0 r j)) (fun j => k (ix3 0 n j)) := by
  rw [← masked_ge]
  pointwise [k0_pay44, k0_pay42, lanes]

/-- A row of the first half's scores. -/
theorem scores_lt (r : Fin 128) (n : Fin 4352) : scores q kc k (ix3 0 ⟨r, by omega⟩ n)
    = score 0 (by decide) (fun j => q (ix3 0 r j)) (join (fun n j => kc (ix3 0 n j)) (fun n j => k (ix3 0 n j)) n) := by
  unfold scores join
  by_cases h : (n : ℕ) < 256
  · rw [dif_pos h]
    exact (dif_pos h).trans (ctx_lt q kc r _)
  · rw [dif_neg h]
    exact (dif_neg h).trans (lat_lt q k r _)

/-- A row of the second half's scores. -/
theorem scores_ge (r : Fin 128) (n : Fin 4352) : scores q kc k (ix3 0 ⟨128 + r, by omega⟩ n)
    = score 64 (by decide) (fun j => q (ix3 0 r j)) (join (fun n j => kc (ix3 0 n j)) (fun n j => k (ix3 0 n j)) n) := by
  unfold scores join
  by_cases h : (n : ℕ) < 256
  · rw [dif_pos h]
    exact (dif_pos h).trans (ctx_ge q kc r _)
  · rw [dif_neg h]
    exact (dif_neg h).trans (lat_ge q k r _)

end Scores

theorem lam_apply (x0 : Vec Ideal S4x64 .f32) : k0_pay1 x0 (ix2 0 0) = lamOf fun i j => x0 (ix2 i j) := by
  pointwise [k0_pay1, lamOf]
  simp only [Finset.univ_unique, Finset.sum_singleton]

theorem gain_apply (x1 : Vec Ideal S1x128 .f32) (d : Fin 128) :
    k0_pay2 x1 (ix2 0 d) = x1 (ix2 0 d) * Ideal.ofBits .f32 0x3EE34C57#32 := by
  pointwise [k0_pay2]

theorem pay_apply (lam : Vec Ideal S1x1 .f32) (g : Vec Ideal S1x128 .f32) (s : Vec Ideal S1x256x4352 .f32)
    (vc : Vec Ideal S1x256x128 .bf16) (v : Vec Ideal S1x4096x128 .bf16) (r d : Fin 128) :
    k0_pay45 lam g s vc v (ix3 0 r d) = kernelRow (lam (ix2 0 0)) (fun d => g (ix2 0 d))
      (fun n => s (ix3 0 ⟨r, by omega⟩ n)) (fun n => s (ix3 0 ⟨128 + r, by omega⟩ n))
      (fun n e => vc (ix3 0 n e)) (fun n e => v (ix3 0 n e)) d := by
  pointwise [k0_pay45, kernelRow, normed, mean, weight]
  rfl

variable (x0 : Vec Ideal S4x64 .f32) (x1 : Vec Ideal S1x128 .f32) (x2 : Vec Ideal S1x1024x128 .bf16)
  (x3 x4 : Vec Ideal S1x256x128 .bf16) (x5 x6 : Vec Ideal S1x4096x128 .bf16)

/-- The block's entry at a row and lane. -/
def entry (r : Fin 1024) (d : Fin 128) : EReal :=
  attnRow (lamOf fun i j => x0 (ix2 i j)) (fun d => x1 (ix2 0 d)) (fun j => x2 (ix3 0 r j))
    (fun n j => x3 (ix3 0 n j)) (fun n j => x4 (ix3 0 n j)) (fun n j => x5 (ix3 0 n j)) (fun n j => x6 (ix3 0 n j)) d

theorem entry_of {l : Fin 4 → Fin 64 → EReal} {g q : Fin 128 → EReal} {kc vc : Fin 256 → Fin 128 → EReal}
    {k v : Fin 4096 → Fin 128 → EReal} {r : Fin 1024} (h0 : ∀ i j, x0 (ix2 i j) = l i j) (h1 : ∀ d, x1 (ix2 0 d) = g d)
    (h2 : ∀ j, x2 (ix3 0 r j) = q j) (h3 : ∀ n j, x3 (ix3 0 n j) = kc n j) (h4 : ∀ n j, x4 (ix3 0 n j) = vc n j)
    (h5 : ∀ n j, x5 (ix3 0 n j) = k n j) (h6 : ∀ n j, x6 (ix3 0 n j) = v n j) (d : Fin 128) :
    entry x0 x1 x2 x3 x4 x5 x6 r d = attnRow (lamOf l) g q kc vc k v d := by
  unfold entry
  simp only [h0, h1, h2, h3, h4, h5, h6]

/-- What a step stores, read at an index of its rows. -/
theorem step_apply (n : ℕ) (h : ∀ a, ![0, n, 0] a + S1x128x128.size a ≤ S1x1024x128.size a) (x : S1x128x128.Idx) :
    (step x0 x1 x4 x6 n h (scores (View.ld x2 (rows n h)) x3 x5)).2 x
      = entry x0 x1 x2 x3 x4 x5 x6 ((rows n h).emb x 1) ((rows n h).emb x 2) := by
  have e1 : ((rows n h).emb x 1 : ℕ) = n + x 1 := ValueKit.rect_emb_unit_val (s := S1x1024x128) ![0, n, 0] S1x128x128.size h x 1
  have e2 : (rows n h).emb x 2 = x 2 := Fin.ext ((ValueKit.rect_emb_unit_val (s := S1x1024x128) ![0, n, 0] S1x128x128.size h x 2).trans (Nat.zero_add _))
  have ex : x = ix3 0 (x 1) (x 2) := by
    funext a
    match a with
    | 0 => exact Subsingleton.elim (α := Fin 1) _ _
    | 1 => rfl
    | 2 => rfl
  have hq : ∀ j, View.ld x2 (rows n h) (ix3 0 (x 1) j) = x2 (ix3 0 ((rows n h).emb x 1) j) := fun j => by
    refine congrArg x2 (funext fun a => Fin.ext ?_)
    refine (ValueKit.rect_emb_unit_val (s := S1x1024x128) ![0, n, 0] S1x128x128.size h (ix3 0 (x 1) j) a).trans ?_
    match a with
    | 0 => rfl
    | 1 => exact e1.symm
    | 2 => exact Nat.zero_add _
  rw [e2]
  unfold entry attnRow
  refine (congrArg _ ex).trans ((pay_apply _ _ _ _ _ _ _).trans ?_)
  simp only [lam_apply, gain_apply]
  refine congrArg₂ (fun a b => kernelRow _ _ a b _ _ _) (funext fun m => ?_) (funext fun m => ?_)
  · exact (scores_lt _ x3 x5 (x 1) m).trans (congrArg (fun q => score 0 _ q _) (funext hq))
  · exact (scores_ge _ x3 x5 (x 1) m).trans (congrArg (fun q => score 64 _ q _) (funext hq))

/-- The steps' stores, with the scores each one reads. -/
theorem steps_eq {κ : Kind} {sp : Space} (v : View sig κ sp S2x256x4352 .f32)
    (q : ∀ n, (∀ a, ![0, n, 0] a + S1x128x128.size a ≤ S1x1024x128.size a) → Vec Ideal S1x128x128 .bf16) :
    steps v x0 x1 x3 x4 x5 x6 q =
      [step x0 x1 x4 x6 896 inb_S1x1024x128_S1x128x128_0_896_0 (scores (q 896 inb_S1x1024x128_S1x128x128_0_896_0) x3 x5),
        step x0 x1 x4 x6 768 inb_S1x1024x128_S1x128x128_0_768_0 (scores (q 768 inb_S1x1024x128_S1x128x128_0_768_0) x3 x5),
        step x0 x1 x4 x6 640 inb_S1x1024x128_S1x128x128_0_640_0 (scores (q 640 inb_S1x1024x128_S1x128x128_0_640_0) x3 x5),
        step x0 x1 x4 x6 512 inb_S1x1024x128_S1x128x128_0_512_0 (scores (q 512 inb_S1x1024x128_S1x128x128_0_512_0) x3 x5),
        step x0 x1 x4 x6 384 inb_S1x1024x128_S1x128x128_0_384_0 (scores (q 384 inb_S1x1024x128_S1x128x128_0_384_0) x3 x5),
        step x0 x1 x4 x6 256 inb_S1x1024x128_S1x128x128_0_256_0 (scores (q 256 inb_S1x1024x128_S1x128x128_0_256_0) x3 x5),
        step x0 x1 x4 x6 128 inb_S1x1024x128_S1x128x128_0_128_0 (scores (q 128 inb_S1x1024x128_S1x128x128_0_128_0) x3 x5),
        step x0 x1 x4 x6 0 inb_S1x1024x128_S1x128x128_0_0_0 (scores (q 0 inb_S1x1024x128_S1x128x128_0_0_0) x3 x5)] := by
  simp only [steps, read0, read1]
  rw [put1, read_put]

/-- The block that the body stores, read at an index. -/
theorem block_apply {κ : Kind} {sp : Space} (v : View sig κ sp S2x256x4352 .f32) (y : S1x1024x128.Idx) :
    View.canon (steps v x0 x1 x3 x4 x5 x6 fun n h => View.ld x2 (rows n h)) y = entry x0 x1 x2 x3 x4 x5 x6 (y 1) (y 2) := by
  have st := step_apply x0 x1 x2 x3 x4 x5 x6
  rw [steps_eq]
  let G : S1x1024x128.Idx → Elt Ideal .bf16 := fun z => entry x0 x1 x2 x3 x4 x5 x6 (z 1) (z 2)
  refine View.canon_apply_of_pieces G _ (View.PiecesOf.mem (G := G) ?_) y ?_
  · exact ⟨st 896 _, st 768 _, st 640 _, st 512 _, st 384 _, st 256 _, st 128 _, st 0 _, trivial⟩
  exact View.cover_of_tiledL (s := S1x1024x128) _ S1x128x128.size (by rfl) y

end Cert.Attn
-- ==== Proof.AttnArr.lean ====
/- The differential attention kernel's result array after the run: every row of every head is the kernel's row of the
   arguments' entries. -/
module

public import proofs.«01_k».proof.Proof.AttnOut

@[expose] public section

set_option maxRecDepth 16384

noncomputable section

namespace Cert.Attn

open Cert.KernelIdeal Cert.KernelIdeal.Gen Idealize.ShloMosaic Idealize.SL.Sem Idealize.ShloMosaic.TcCoe

/-- A head's lane in a row of 1024. -/
def lane (h : Fin 8) (d : Fin 128) : Fin 1024 := ⟨h * 128 + d, by omega⟩

/-- A lane's head and its place there. -/
def headOf (d : Fin 1024) : Fin 8 := ⟨d / 128, by omega⟩

def placeOf (d : Fin 1024) : Fin 128 := ⟨d % 128, by omega⟩

/-- The kernel's attention of every row and head of the arrays. -/
def attn (l : Vec Ideal S4x64 .f32) (g : Vec Ideal S128 .f32) (q : Vec Ideal S8x4096x1024 .bf16) (kc vc : Vec Ideal S8x256x1024 .bf16)
    (k v : Vec Ideal S8x4096x1024 .bf16) (b : Fin 8) (i : Fin 4096) (h : Fin 8) (d : Fin 128) : EReal :=
  attnRow (lamOf fun i j => l (ix2 i j)) (fun d => g (ix1 d)) (fun j => q (ix3 b i (lane h j)))
    (fun n j => kc (ix3 b n (lane h j))) (fun n j => vc (ix3 b n (lane h j)))
    (fun n j => k (ix3 b n (lane h j))) (fun n j => v (ix3 b n (lane h j))) d

/-- Where each window's block lies at a grid point. -/
theorem idx : ∀ t : Fin cfg0.N, win0_0.index t = ![0, 0] ∧ win0_1.index t = ![0, 0]
    ∧ win0_2.index t = ![(t : ℕ) / 32, (t : ℕ) % 4, (t : ℕ) / 4 % 8] ∧ win0_3.index t = ![(t : ℕ) / 32, 0, (t : ℕ) / 4 % 8]
    ∧ win0_4.index t = ![(t : ℕ) / 32, 0, (t : ℕ) / 4 % 8] ∧ win0_5.index t = ![(t : ℕ) / 32, 0, (t : ℕ) / 4 % 8]
    ∧ win0_6.index t = ![(t : ℕ) / 32, 0, (t : ℕ) / 4 % 8] ∧ win0_7.index t = ![(t : ℕ) / 32, (t : ℕ) % 4, (t : ℕ) / 4 % 8] :=
  (by decide +kernel : ∀ t : Fin grid0.N, _)

theorem points : cfg0.N = 256 := by decide +kernel

variable (m : (ℓ : Loc nD τ sig) → Buf (Elt Ideal) ℓ) (c : Dev nD) (t : Fin cfg0.N)

/-- The batch entry of a grid point. -/
def bat : Fin 8 := ⟨t / 32, by have h : (t : ℕ) < 256 := lt_of_lt_of_eq t.isLt points; omega⟩

/-- The head of a grid point. -/
def head : Fin 8 := ⟨t / 4 % 8, by omega⟩

/-- The array's row of a grid point's block row. -/
def row (r : Fin 1024) : Fin 4096 := ⟨t % 4 * 1024 + r, by omega⟩

theorem blk0 (i : Fin 4) (j : Fin 64) : iblk m c 0 t (ix2 i j) = m ((c : Thread nD τ).loc main_arg0) (ix2 i j) := by
  obtain ⟨h0, h1, h2, h3, h4, h5, h6, h7⟩ := idx t
  blk_simp [iblk]
  rw [V_main_arg0]
  congr 1
  blk_ext [h0]

theorem blk1 (d : Fin 128) : iblk m c 1 t (ix2 0 d) = m ((c : Thread nD τ).loc main_arg1) (ix1 d) := by
  obtain ⟨h0, h1, h2, h3, h4, h5, h6, h7⟩ := idx t
  blk_simp [iblk]
  entry_read
  pointwise
  congr 1
  blk_ext [h1]

theorem blk2 (r : Fin 1024) (d : Fin 128) :
    iblk m c 2 t (ix3 0 r d) = m ((c : Thread nD τ).loc main_arg2) (ix3 (bat t) (row t r) (lane (head t) d)) := by
  obtain ⟨h0, h1, h2, h3, h4, h5, h6, h7⟩ := idx t
  blk_simp [iblk]
  rw [V_main_arg2]
  congr 1
  blk_ext [h2, bat, row, head, lane]

theorem blk3 (n : Fin 256) (d : Fin 128) :
    iblk m c 3 t (ix3 0 n d) = m ((c : Thread nD τ).loc main_arg3) (ix3 (bat t) n (lane (head t) d)) := by
  obtain ⟨h0, h1, h2, h3, h4, h5, h6, h7⟩ := idx t
  blk_simp [iblk]
  rw [V_main_arg3]
  congr 1
  blk_ext [h3, bat, row, head, lane]

theorem blk4 (n : Fin 256) (d : Fin 128) :
    iblk m c 4 t (ix3 0 n d) = m ((c : Thread nD τ).loc main_arg4) (ix3 (bat t) n (lane (head t) d)) := by
  obtain ⟨h0, h1, h2, h3, h4, h5, h6, h7⟩ := idx t
  blk_simp [iblk]
  rw [V_main_arg4]
  congr 1
  blk_ext [h4, bat, row, head, lane]

theorem blk5 (n : Fin 4096) (d : Fin 128) :
    iblk m c 5 t (ix3 0 n d) = m ((c : Thread nD τ).loc main_arg5) (ix3 (bat t) n (lane (head t) d)) := by
  obtain ⟨h0, h1, h2, h3, h4, h5, h6, h7⟩ := idx t
  blk_simp [iblk]
  rw [V_main_arg5]
  congr 1
  blk_ext [h5, bat, row, head, lane]

theorem blk6 (n : Fin 4096) (d : Fin 128) :
    iblk m c 6 t (ix3 0 n d) = m ((c : Thread nD τ).loc main_arg6) (ix3 (bat t) n (lane (head t) d)) := by
  obtain ⟨h0, h1, h2, h3, h4, h5, h6, h7⟩ := idx t
  blk_simp [iblk]
  rw [V_main_arg6]
  congr 1
  blk_ext [h6, bat, row, head, lane]

theorem emb7 (r : Fin 1024) (d : Fin 128) :
    ((cfg0.win 7).blk t).view.emb (ix3 0 r d) = ix3 (bat t) (row t r) (lane (head t) d) := by
  obtain ⟨h0, h1, h2, h3, h4, h5, h6, h7⟩ := idx t
  blk_ext [h7, bat, row, head, lane]

theorem head_lane (h : Fin 8) (d : Fin 128) : headOf (lane h d) = h := Fin.ext (by change ((h : ℕ) * 128 + d) / 128 = h; omega)

theorem place_lane (h : Fin 8) (d : Fin 128) : placeOf (lane h d) = d := Fin.ext (by change ((h : ℕ) * 128 + d) % 128 = d; omega)

/-- What the body stores at a grid point. -/
theorem outsAt_apply (r : Fin 1024) (d : Fin 128) : outsAt0 m c t (ix3 0 r d) =
    attn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (bat t) (row t r) (head t) d := by
  unfold outsAt0
  rw [out_eq]
  refine (block_apply _ _ _ _ _ _ _ _ _).trans ?_
  exact entry_of _ _ _ _ _ _ _ (blk0 m c t) (blk1 m c t) (blk2 m c t r) (blk3 m c t) (blk4 m c t) (blk5 m c t) (blk6 m c t) d

/-- The result array after the run. -/
theorem arr : (dats m 0 c).arrAt 7 cfg0.N = fun i =>
    attn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (i 0) (i 1) (headOf (i 2)) (placeOf (i 2)) := by
  refine (dats m 0 c).arrAt_eq_of_covers 7 _ (by decide +kernel) fun t hf y => ?_
  blk_simp
  rw [after0_7]
  idx_vars y
  obtain rfl : y0 = 0 := Subsingleton.elim _ _
  rw [outsAt_apply]
  have e := emb7 t y1 y2
  blk_simp at e
  simp only [e]
  change attn _ _ _ _ _ _ _ (bat t) (row t y1) (head t) y2 = attn _ _ _ _ _ _ _ (bat t) (row t y1) (headOf (lane (head t) y2)) (placeOf (lane (head t) y2))
  rw [head_lane, place_lane]

end Cert.Attn
-- ==== Proof.AttnRef.lean ====
/- The differential attention's reference, read at an index. -/
module

public import proofs.«01_k».proof.Proof.AttnArr
public import proofs.«01_k».proof.Proof.Gen.ReferenceIdeal.Read

@[expose] public section

set_option maxRecDepth 16384

noncomputable section

namespace Cert.Attn

open Cert.ReferenceIdeal Cert.ReferenceIdeal.Gen Cert.ReferenceIdeal.Read Idealize.ShloMosaic

variable (x0 : Vec Ideal S4x64 .f32) (x1 : Vec Ideal S128 .f32) (x2 : Vec Ideal S8x4096x1024 .bf16) (x3 x4 : Vec Ideal S8x256x1024 .bf16)
    (x5 x6 : Vec Ideal S8x4096x1024 .bf16) (b : Fin 8) (i : Fin 4096) (h : Fin 8)

/-- The factor of the second softmax. -/
theorem ref_lam : val_main_v15 (F := Ideal) x0 ix0 = lamOf fun i j => x0 (ix2 i j) := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, lamOf]

/-- The scores of a half (`o`) of a head. -/
theorem ref_score (o : Fin 2) (n : Fin 4352) : val_main_v28 (F := Ideal) x2 x3 x5 (ix5 b h o i n)
    = score (64 * o) (by omega) (fun j => x2 (ix3 b i (lane h j)))
      (join (fun n j => x3 (ix3 b n (lane h j))) (fun n j => x5 (ix3 b n (lane h j))) n) := by
  pointwise [val_main_v28, val_main_v27, val_main_v26, val_main_v20, val_main_v19, val_main_v18, val_main_v17, val_main_v16, score]
  refine Finset.sum_congr rfl fun x _ => ?_
  have e : (⟨h * 128 + o * 64 + x, by omega⟩ : Fin 1024) = lane h ⟨64 * o + x, by omega⟩ :=
    Fin.ext (by change (h : ℕ) * 128 + o * 64 + x = h * 128 + (64 * o + x); omega)
  unfold join
  split <;> simp only [← e]

theorem ref_scaled (o : Fin 2) (n : Fin 4352) : val_main_v31 (F := Ideal) x2 x3 x5 (ix5 b h o i n)
    = val_main_v28 (F := Ideal) x2 x3 x5 (ix5 b h o i n) * Ideal.log (Ideal.ofBits .f32 0x40000000#32) := by
  pointwise [val_main_v31, val_main_v30, val_main_v29, val_main_cst_2]

theorem ref_fold (o : Fin 2) : val_main_v32 (F := Ideal) x2 x3 x5 (ix4 b h o i)
    = Finset.univ.fold max low fun n => val_main_v31 (F := Ideal) x2 x3 x5 (ix5 b h o i n) := by
  pointwise [val_main_v32, val_main_cst_3]

theorem ref_max (o : Fin 2) : val_main_v34 (F := Ideal) x2 x3 x5 (ix4 b h o i)
    = max low (val_main_v32 (F := Ideal) x2 x3 x5 (ix4 b h o i)) := by
  rw [val_main_v34_apply, val_main_v33_apply]
  rfl

theorem ref_exp (o : Fin 2) (n : Fin 4352) : val_main_v38 (F := Ideal) x2 x3 x5 (ix5 b h o i n)
    = Ideal.exp (val_main_v31 (F := Ideal) x2 x3 x5 (ix5 b h o i n) - val_main_v34 (F := Ideal) x2 x3 x5 (ix4 b h o i)) := by
  pointwise [val_main_v38, val_main_v37, val_main_v36, val_main_v35]

theorem ref_sum (o : Fin 2) : val_main_v39 (F := Ideal) x2 x3 x5 (ix4 b h o i)
    = ∑ n, val_main_v38 (F := Ideal) x2 x3 x5 (ix5 b h o i n) := by
  pointwise [val_main_v39, val_main_cst_5]

theorem ref_div (o : Fin 2) (n : Fin 4352) : val_main_v42 (F := Ideal) x2 x3 x5 (ix5 b h o i n)
    = Ideal.div (val_main_v38 (F := Ideal) x2 x3 x5 (ix5 b h o i n)) (val_main_v39 (F := Ideal) x2 x3 x5 (ix4 b h o i)) := by
  pointwise [val_main_v42, val_main_v41, val_main_v40]

/-- The softmax of a half's scores. -/
theorem ref_soft (o : Fin 2) (n : Fin 4352) : val_main_v42 (F := Ideal) x2 x3 x5 (ix5 b h o i n)
    = soft (fun n => val_main_v28 (F := Ideal) x2 x3 x5 (ix5 b h o i n)) n := by
  rw [ref_div, ref_sum]
  simp only [ref_exp, ref_max, ref_fold, ref_scaled]
  rfl

theorem ref_fst (n : Fin 4352) : val_main_v43 (F := Ideal) x2 x3 x5 (ix5 b h 0 i n)
    = val_main_v42 (F := Ideal) x2 x3 x5 (ix5 b h 0 i n) := by
  pointwise [val_main_v43]

theorem ref_snd (n : Fin 4352) : val_main_v45 (F := Ideal) x2 x3 x5 (ix5 b h 0 i n)
    = val_main_v42 (F := Ideal) x2 x3 x5 (ix5 b h 1 i n) := by
  pointwise [val_main_v45]

theorem ref_first (n : Fin 4352) : val_main_v44 (F := Ideal) x2 x3 x5 (ix4 b h i n)
    = val_main_v43 (F := Ideal) x2 x3 x5 (ix5 b h 0 i n) := by
  pointwise [val_main_v44]

theorem ref_second (n : Fin 4352) : val_main_v46 (F := Ideal) x2 x3 x5 (ix4 b h i n)
    = val_main_v45 (F := Ideal) x2 x3 x5 (ix5 b h 0 i n) := by
  pointwise [val_main_v46]

/-- The difference of the two softmaxes. -/
theorem ref_diff (n : Fin 4352) : val_main_v49 (F := Ideal) x0 x2 x3 x5 (ix4 b h i n)
    = val_main_v42 (F := Ideal) x2 x3 x5 (ix5 b h 0 i n) - val_main_v15 (F := Ideal) x0 ix0 * val_main_v42 (F := Ideal) x2 x3 x5 (ix5 b h 1 i n) := by
  rw [val_main_v49_apply, val_main_v48_apply, val_main_v47_apply, ref_first, ref_second, ref_fst, ref_snd,
    Subsingleton.elim (idx_main_v47 _) ix0]
  rfl

theorem ref_vals (n : Fin 4352) (d : Fin 128) : val_main_v25 (F := Ideal) x4 x6 (ix4 b n h d)
    = join (fun n => x4 (ix3 b n (lane h d))) (fun n => x6 (ix3 b n (lane h d))) n := by
  pointwise [val_main_v25, val_main_v24, val_main_v23, val_main_v22, val_main_v21, join]
  rfl

/-- The difference's product with the values. -/
theorem ref_out (d : Fin 128) : val_main_v50 (F := Ideal) x0 x2 x3 x4 x5 x6 (ix4 b h d i)
    = ∑ n, val_main_v25 (F := Ideal) x4 x6 (ix4 b n h d) * val_main_v49 (F := Ideal) x0 x2 x3 x5 (ix4 b h i n) := by
  pointwise [val_main_v50]

theorem ref_normed (d : Fin 128) : val_main_v66 (F := Ideal) x0 x1 x2 x3 x4 x5 x6 (ix4 b i h d)
    = normed (fun d => val_main_v50 (F := Ideal) x0 x2 x3 x4 x5 x6 (ix4 b h d i)) (fun d => x1 (ix1 d) * Ideal.ofBits .f32 0x3EE34C57#32) d := by
  pointwise [val_main_v66, val_main_v65, val_main_v64, val_main_v63, val_main_v62, val_main_v61, val_main_v60, val_main_v59,
    val_main_v58, val_main_v57, val_main_v56, val_main_v55, val_main_v54, val_main_v53, val_main_v52, val_main_v51, val_main_cst_6,
    val_main_cst_7, val_main_cst_8, val_main_cst_9, normed]
  rw [mul_assoc]

theorem ref_heads (d : Fin 1024) : val_main_v68 (F := Ideal) x0 x1 x2 x3 x4 x5 x6 (ix3 b i d)
    = val_main_v66 (F := Ideal) x0 x1 x2 x3 x4 x5 x6 (ix4 b i (headOf d) (placeOf d)) := by
  pointwise [val_main_v68, val_main_v67]
  rfl

/-- The reference at an index, as a row of one head. -/
theorem ref_apply (d : Fin 1024) : val_main_v68 (F := Ideal) x0 x1 x2 x3 x4 x5 x6 (ix3 b i d)
    = refHead (lamOf fun i j => x0 (ix2 i j)) (fun d => x1 (ix1 d)) (fun j => x2 (ix3 b i (lane (headOf d) j)))
      (fun n j => x3 (ix3 b n (lane (headOf d) j))) (fun n j => x4 (ix3 b n (lane (headOf d) j)))
      (fun n j => x5 (ix3 b n (lane (headOf d) j))) (fun n j => x6 (ix3 b n (lane (headOf d) j))) (placeOf d) := by
  rw [ref_heads, ref_normed]
  simp only [ref_out, ref_diff, ref_vals, ref_soft, ref_score, ref_lam]
  rfl

/-- Where the arguments are finite, the kernel's result array is the reference's. -/
theorem attn_eq (h0 : ∀ i, IsReal (x0 i)) (h2 : ∀ i, IsReal (x2 i)) (h3 : ∀ i, IsReal (x3 i)) (h4 : ∀ i, IsReal (x4 i))
    (h5 : ∀ i, IsReal (x5 i)) (h6 : ∀ i, IsReal (x6 i)) :
    val_main_v68 (F := Ideal) x0 x1 x2 x3 x4 x5 x6 = fun i => attn x0 x1 x2 x3 x4 x5 x6 (i 0) (i 1) (headOf (i 2)) (placeOf (i 2)) := by
  funext y
  idx_vars y
  rw [ref_apply]
  exact (head_real _ (fun i j => h0 _) (fun j => h2 _) (fun n j => h3 _) (fun n j => h4 _) (fun n j => h5 _) (fun n j => h6 _) _).symm

end Cert.Attn

end
-- ==== Proof.AttnClaim.lean ====
/- The differential attention's claim: where its precondition holds, the kernel ends with the reference's result. -/
module

public import proofs.«01_k».proof.Defs
public import proofs.«01_k».proof.Proof.AttnRef
public import proofs.«01_k».proof.Proof.Gen.Pre_finite

@[expose] public section

set_option maxRecDepth 16384

noncomputable section

namespace Cert.Attn

open Idealize.ShloMosaic Idealize.SL.Sem

/-- A value whose magnitude is below infinity is a real number. -/
theorem real_of_lt (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x with
  | coe r => exact ⟨r, rfl⟩
  | bot => simp [Ideal.cmp] at h
  | top => simp [Ideal.cmp] at h

/-- The kernel and its reference end with the same result array, where the precondition holds. -/
theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  refine ⟨fun c => _, Cert.KernelIdeal.Value.run_blocks m g, ?_⟩
  refine (θ_run _ _ _).mono (fun r h c => ?_) (Cert.ReferenceIdeal.Value.run m' g')
  obtain ⟨h0, h1⟩ := h c
  refine ⟨?_, h1⟩
  obtain ⟨a0, a1, a2, a3, a4, a5, a6⟩ := hag c
  obtain ⟨p0, p2, p3, p4, p5, p6⟩ := hpre c
  rw [h0, Cert.ReferenceIdeal.Read.val_main_v68_eq, a0, a1, a2, a3, a4, a5, a6]
  refine (attn_eq _ _ _ _ _ _ _ (fun i => real_of_lt _ (congrFun p0 i)) (fun i => real_of_lt _ (congrFun p2 i)) (fun i => real_of_lt _ (congrFun p3 i))
    (fun i => real_of_lt _ (congrFun p4 i)) (fun i => real_of_lt _ (congrFun p5 i)) (fun i => real_of_lt _ (congrFun p6 i))).trans ?_
  exact (arr m c).symm

end Cert.Attn

end
-- ==== Proof.GqBlock.lean ====
/- The grouped-query attention kernel's block: what the body stores for a block of 512 query rows of four heads, taken
   apart into sixteen steps of 32 rows, each of which writes its scores to the scratch array and reads them back. -/
module

public import proofs.«01_k».proof.Proof.Gen.Kernel6Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Gq

open Cert.Kernel6Ideal Cert.Kernel6Ideal.Gen Idealize.ShloMosaic Idealize.ShloMosaic.TcCoe

/-- The scores with the context's 256 keys followed by the scores with the latent tokens' 4096. -/
def both (a : Vec Ideal S1x128x256 .f32) (b : Vec Ideal S1x128x4096 .f32) : Vec Ideal S1x128x4352 .f32 := fun y =>
  if h : (y 2 : ℕ) < 256 then a (ix3 0 (y 1) ⟨y 2, h⟩)
  else b (ix3 0 (y 1) ⟨(y 2 : ℕ) - 256, by have := (y 2).isLt; change (y 2 : ℕ) < 4352 at this; omega⟩)

/-- Where a step's scores with the context's keys lie in half `s` of the scratch. -/
theorem inCtx {s : ℕ} (hs : s < 2) : ∀ a, ![s, 0, 0] a + S1x128x256.size a ≤ S2x128x4352.size a
  | 0 => hs
  | 1 => le_of_eq (Nat.zero_add _)
  | 2 => (Nat.zero_add _).trans_le (by decide)

/-- Where its scores with the latent tokens' keys lie. -/
theorem inLat {s : ℕ} (hs : s < 2) : ∀ a, ![s, 0, 256] a + S1x128x4096.size a ≤ S2x128x4352.size a
  | 0 => hs
  | 1 => le_of_eq (Nat.zero_add _)
  | 2 => Nat.le_refl 4352

theorem inHalf {s : ℕ} (hs : s < 2) : ∀ a, ![s, 0, 0] a + S1x128x4352.size a ≤ S2x128x4352.size a
  | 0 => hs
  | 1 => le_of_eq (Nat.zero_add _)
  | 2 => le_of_eq (Nat.zero_add _)

/-- A step's two stores of scores to half `s` of the scratch, after the stores `L`. -/
def put (s : ℕ) (hs : s < 2) (a : Vec Ideal S1x128x256 .f32) (b : Vec Ideal S1x128x4096 .f32)
    (L : List (View.Piece (Elt Ideal) S2x128x4352 .f32)) : List (View.Piece (Elt Ideal) S2x128x4352 .f32) :=
  ⟨Rect.unit ![s, 0, 256] S1x128x4096.size (inLat hs), b⟩ :: ⟨Rect.unit ![s, 0, 0] S1x128x256.size (inCtx hs), a⟩ :: L

/-- Half `s` of the scratch, as a rectangle. -/
abbrev half (s : ℕ) (hs : s < 2) : LoadRect S2x128x4352 :=
  (Rect.unit (s := S2x128x4352) ![s, 0, 0] S1x128x4352.size (inHalf hs)).toLoadRect

section Read
variable {κ : Kind} {sp : Space} (v : View sig κ sp S2x128x4352 .f32) (a a' : Vec Ideal S1x128x256 .f32)
  (b b' : Vec Ideal S1x128x4096 .f32) (L : List (View.Piece (Elt Ideal) S2x128x4352 .f32))

theorem both_ctx (y : S1x128x4352.Idx) (x : S1x128x256.Idx) (h1 : (y 1 : ℕ) = x 1) (h2 : (y 2 : ℕ) = x 2) :
    both a b y = a x := by
  unfold both
  rw [dif_pos (by rw [h2]; exact (x 2).isLt)]
  refine congrArg a (funext fun a => Fin.ext ?_)
  match a with
  | 0 => exact (congrArg Fin.val (Subsingleton.elim (α := Fin 1) _ _))
  | 1 => exact h1
  | 2 => exact h2

theorem both_lat (y : S1x128x4352.Idx) (x : S1x128x4096.Idx) (h1 : (y 1 : ℕ) = x 1) (h2 : (y 2 : ℕ) = 256 + x 2) :
    both a b y = b x := by
  unfold both
  rw [dif_neg (by omega)]
  refine congrArg b (funext fun a => Fin.ext ?_)
  match a with
  | 0 => exact (congrArg Fin.val (Subsingleton.elim (α := Fin 1) _ _))
  | 1 => exact h1
  | 2 => exact (congrArg (· - 256) h2).trans (Nat.add_sub_cancel_left _ _)

/-- A half of the scratch, read after a step's stores to it, holds the step's scores. -/
theorem read_put (s : ℕ) (hs : s < 2) : v.readCov (put s hs a b L) (half s hs) = both a b := by
  rw [View.readCov_eq_canon']
  funext y
  have e : ∀ a, ((half s hs).idx y a : ℕ) = ![s, 0, 0] a + y a := fun a => ValueKit.rect_emb_unit_val _ _ _ y a
  have e1 : ((half s hs).idx y 1 : ℕ) = y 1 := (e 1).trans (Nat.zero_add _)
  have e2 : ((half s hs).idx y 2 : ℕ) = y 2 := (e 2).trans (Nat.zero_add _)
  have e0 : ((half s hs).idx y 0 : ℕ) = s := (e 0).trans (by have := (y 0).isLt; change (y 0 : ℕ) < 1 at this; change s + (y 0 : ℕ) = s; omega)
  have b1 : (y 1 : ℕ) < 128 := (y 1).isLt
  have b2 : (y 2 : ℕ) < 4352 := (y 2).isLt
  refine (View.canon_append_of_piecesOf (fun z => both a b (ix3 0 (z 1) (z 2))) L
    [⟨Rect.unit ![s, 0, 256] S1x128x4096.size (inLat hs), b⟩, ⟨Rect.unit ![s, 0, 0] S1x128x256.size (inCtx hs), a⟩]
    ⟨fun x => ?_, fun x => ?_, trivial⟩ _ ?_).trans ?_
  · exact (both_lat a b _ x ((ValueKit.rect_emb_unit_val (s := S2x128x4352) ![s, 0, 256] S1x128x4096.size (inLat hs) x 1).trans (Nat.zero_add _))
      (ValueKit.rect_emb_unit_val (s := S2x128x4352) ![s, 0, 256] S1x128x4096.size (inLat hs) x 2)).symm
  · exact (both_ctx a b _ x ((ValueKit.rect_emb_unit_val (s := S2x128x4352) ![s, 0, 0] S1x128x256.size (inCtx hs) x 1).trans (Nat.zero_add _))
      ((ValueKit.rect_emb_unit_val (s := S2x128x4352) ![s, 0, 0] S1x128x256.size (inCtx hs) x 2).trans (Nat.zero_add _))).symm
  · by_cases hy : (y 2 : ℕ) < 256
    · refine ⟨_, List.mem_cons_of_mem _ List.mem_cons_self, (Rect.mem_set_unit (s := S2x128x4352) (inb := inCtx hs)).2 fun a => ?_⟩
      match a with
      | 0 => rw [e0]; exact ⟨le_rfl, Nat.lt_succ_self _⟩
      | 1 => rw [e1]; exact ⟨Nat.zero_le _, lt_of_lt_of_eq b1 (Nat.zero_add _).symm⟩
      | 2 => rw [e2]; exact ⟨Nat.zero_le _, lt_of_lt_of_eq hy (Nat.zero_add _).symm⟩
    · refine ⟨_, List.mem_cons_self, (Rect.mem_set_unit (s := S2x128x4352) (inb := inLat hs)).2 fun a => ?_⟩
      match a with
      | 0 => rw [e0]; exact ⟨le_rfl, Nat.lt_succ_self _⟩
      | 1 => rw [e1]; exact ⟨Nat.zero_le _, lt_of_lt_of_eq b1 (Nat.zero_add _).symm⟩
      | 2 => rw [e2]; exact ⟨not_lt.1 hy, b2⟩
  · refine congrArg (both a b) (funext fun a => Fin.ext ?_)
    match a with
    | 0 => exact (congrArg Fin.val (Subsingleton.elim (α := Fin 1) _ _))
    | 1 => exact e1
    | 2 => exact e2

/-- The same when the next step's stores to the other half came in between. -/
theorem read_other (s s' : ℕ) (hs : s < 2) (hs' : s' < 2) (h : s ≠ s') :
    v.readCov (put s' hs' a' b' (put s hs a b L)) (half s hs) = both a b := by
  obtain ⟨rfl, rfl⟩ | ⟨rfl, rfl⟩ : s = 0 ∧ s' = 1 ∨ s = 1 ∧ s' = 0 := by omega
  · rw [put, View.readCov_skip _ _ _ _ _ (by rfl), View.readCov_skip _ _ _ _ _ (by rfl), read_put]
  · rw [put, View.readCov_skip _ _ _ _ _ (by rfl), View.readCov_skip _ _ _ _ _ (by rfl), read_put]

end Read

/-- Step `i`'s rows of head `j`, in the block of 512 query rows of four heads. -/
theorem inPiece {i j : ℕ} (hi : i < 16) (hj : j < 4) : ∀ a, ![0, 32 * i, 128 * j] a + S1x32x128.size a ≤ S1x512x512.size a
  | 0 => le_of_eq (Nat.zero_add _)
  | 1 => by change 32 * i + 32 ≤ 512; omega
  | 2 => by change 128 * j + 128 ≤ 512; omega

abbrev piece (i j : ℕ) (hi : i < 16) (hj : j < 4) : Rect S1x512x512 := Rect.unit ![0, 32 * i, 128 * j] S1x32x128.size (inPiece hi hj)

section Steps
variable {κ : Kind} {sp : Space} (v : View sig κ sp S2x128x4352 .f32)
  (q : ∀ i j, i < 16 → j < 4 → Vec Ideal S1x32x128 .bf16) (kc vc : Vec Ideal S1x256x128 .bf16) (k va : Vec Ideal S1x4096x128 .bf16)

/-- A step's scores with the context's keys, its four heads stacked. -/
def ctxOf (i : ℕ) (hi : i < 16) : Vec Ideal S1x128x256 .f32 :=
  k0_pay4 (q i 0 hi (by decide)) (q i 1 hi (by decide)) (q i 2 hi (by decide)) (q i 3 hi (by decide)) kc

/-- A step's scores with the latent tokens' keys. -/
def latOf (i : ℕ) (hi : i < 16) : Vec Ideal S1x128x4096 .f32 :=
  k0_pay5 (q i 0 hi (by decide)) (q i 1 hi (by decide)) (q i 2 hi (by decide)) (q i 3 hi (by decide)) k

/-- The stores to the scratch of the first `n` steps. -/
def puts : (n : ℕ) → n ≤ 16 → List (View.Piece (Elt Ideal) S2x128x4352 .f32)
  | 0, _ => []
  | n + 1, h => put (n % 2) (Nat.mod_lt _ two_pos) (ctxOf q kc n h) (latOf q k n h) (puts n (Nat.le_of_succ_le h))

/-- What a step stores, from the scores it reads: its rows' attention in each of the four heads. -/
def store (i : ℕ) (hi : i < 16) (s : Vec Ideal S1x128x4352 .f32) (L : List (View.Piece (Elt Ideal) S1x512x512 .bf16)) :
    List (View.Piece (Elt Ideal) S1x512x512 .bf16) :=
  ⟨piece i 3 hi (by decide), k0_pay18 (k0_pay11 s) (k0_pay12 s) (k0_pay13 s) vc va⟩ ::
  ⟨piece i 2 hi (by decide), k0_pay17 (k0_pay11 s) (k0_pay12 s) (k0_pay13 s) vc va⟩ ::
  ⟨piece i 1 hi (by decide), k0_pay16 (k0_pay11 s) (k0_pay12 s) (k0_pay13 s) vc va⟩ ::
  ⟨piece i 0 hi (by decide), k0_pay15 (k0_pay11 s) (k0_pay12 s) (k0_pay13 s) vc va⟩ :: L

/-- The stores to the result of the first `n` steps but the last: each reads its scores after the next step's are written. -/
def stores : (n : ℕ) → n ≤ 15 → List (View.Piece (Elt Ideal) S1x512x512 .bf16)
  | 0, _ => []
  | n + 1, h => store vc va n (Nat.lt_succ_of_lt h) (v.readCov (puts q kc k (n + 2) (Nat.succ_le_succ h)) (half (n % 2) (Nat.mod_lt _ two_pos)))
      (stores n (Nat.le_of_succ_le h))

/-- The stores to the result of all sixteen steps. -/
def steps : List (View.Piece (Elt Ideal) S1x512x512 .bf16) :=
  store vc va 15 (by decide) (v.readCov (puts q kc k 16 le_rfl) (half 1 (by decide))) (stores v q kc vc k va 15 le_rfl)

end Steps

/-- Loading the whole of an array loads its contents. -/
theorem load_whole {S : Shape} {e : EltTy} (a : Memref sig .tc .vmem S e) (ha : a.IsWhole) (x : Vec Ideal S e)
    {off : Fin S.rank → ℕ} (h0 : off = fun _ => 0) (inb : ∀ a, off a + S.size a ≤ S.size a) :
    View.readAt (Elt Ideal) a.view (Rect.unit off S.size inb).toLoadRect (ha.unread x) = x := by
  rw [View.readAt_eq_ld, ha.read_unread, View.ld_unit_zero (h := h0)]

variable (x0 : Vec Ideal S1x512x512 .bf16) (x1 x2 : Vec Ideal S1x256x128 .bf16) (x3 x4 : Vec Ideal S1x4096x128 .bf16)

set_option maxHeartbeats 4000000 in
/-- The block that the body stores. -/
theorem out_eq (c : Dev nD) (i : grid0.Coords) (arg3 : Memref sig .tc .vmem S1x512x512 .bf16) (harg3 : arg3.IsWhole)
    (arg4 : Memref sig .tc .vmem S1x256x128 .bf16) (harg4 : arg4.IsWhole) (arg5 : Memref sig .tc .vmem S1x256x128 .bf16) (harg5 : arg5.IsWhole)
    (arg6 : Memref sig .tc .vmem S1x4096x128 .bf16) (harg6 : arg6.IsWhole) (arg7 : Memref sig .tc .vmem S1x4096x128 .bf16) (harg7 : arg7.IsWhole)
    (arg8 : Memref sig .tc .vmem S1x512x512 .bf16) (harg8 : arg8.IsWhole) (arg9 : Memref sig .tc .vmem S2x128x4352 .f32) (harg9 : arg9.IsWhole) :
    out0_A_5 c i arg3 harg3 arg4 harg4 arg5 harg5 arg6 harg6 arg7 harg7 arg8 harg8 arg9 harg9 x0 x1 x2 x3 x4 =
      View.canon (steps arg9.view (fun i j hi hj => View.ld x0 (piece i j hi hj)) x1 x2 x3 x4) := by
  unfold out0_A_5
  rw [View.read_writes_junk_eq_canon]
  have z3 : ![0, 0, 0] = (fun _ => 0 : Fin 3 → ℕ) := by funext a; fin_cases a <;> rfl
  have hk := load_whole arg6 harg6 x3 z3 inb_S1x4096x128_S1x4096x128_0_0_0
  have hv := load_whole arg7 harg7 x4 z3 inb_S1x4096x128_S1x4096x128_0_0_0
  have hkc := load_whole arg4 harg4 x1 z3 inb_S1x256x128_S1x256x128_0_0_0
  have hvc := load_whole arg5 harg5 x2 z3 inb_S1x256x128_S1x256x128_0_0_0
  have hq : (fun i j hi hj => View.ld x0 (piece i j hi hj)) = fun i j hi hj => View.readAt (Elt Ideal) arg3.view (piece i j hi hj).toLoadRect (harg3.unread x0) := by
    funext i j hi hj
    rw [View.readAt_eq_ld, harg3.read_unread]
  rw [hq]
  refine congrArg View.canon (Eq.trans (b := steps arg9.view
     (fun i j hi hj => View.readAt (Elt Ideal) arg3.view (piece i j hi hj).toLoadRect (harg3.unread x0))
     (View.readAt (Elt Ideal) arg4.view (Rect.unit (s := S1x256x128) ![0, 0, 0] S1x256x128.size inb_S1x256x128_S1x256x128_0_0_0).toLoadRect (harg4.unread x1))
     (View.readAt (Elt Ideal) arg5.view (Rect.unit (s := S1x256x128) ![0, 0, 0] S1x256x128.size inb_S1x256x128_S1x256x128_0_0_0).toLoadRect (harg5.unread x2))
     (View.readAt (Elt Ideal) arg6.view (Rect.unit (s := S1x4096x128) ![0, 0, 0] S1x4096x128.size inb_S1x4096x128_S1x4096x128_0_0_0).toLoadRect (harg6.unread x3))
     (View.readAt (Elt Ideal) arg7.view (Rect.unit (s := S1x4096x128) ![0, 0, 0] S1x4096x128.size inb_S1x4096x128_S1x4096x128_0_0_0).toLoadRect (harg7.unread x4))) ?_ ?_)
  · rfl
  · rw [hk, hv, hkc, hvc]

end Cert.Gq

end
-- ==== Proof.GqRow.lean ====
/- One row of the grouped-query attention, as the kernel computes it and as the reference does, and that the two agree
   where the arguments are finite. -/
module

public import proofs.«01_k».proof.Proof.AttnRow

@[expose] public section

set_option maxRecDepth 16384

noncomputable section

namespace Cert.Gq

open Cert.Attn Idealize.ShloMosaic

/-- The score of a key with a row's query. -/
def dotOf (q k : Fin 128 → EReal) : EReal := ∑ j, q j * k j

/-- A row of the kernel's result in one head, from the row's query, the keys and the values. -/
def gqRow (q : Fin 128 → EReal) (kc vc : Fin 256 → Fin 128 → EReal) (k v : Fin 4096 → Fin 128 → EReal) (d : Fin 128) : EReal :=
  mean (fun n => dotOf q (join kc k n)) (fun n => vc n d) (fun n => v n d)

/-- A row of the reference's result in one head. -/
def refRow (q : Fin 128 → EReal) (kc vc : Fin 256 → Fin 128 → EReal) (k v : Fin 4096 → Fin 128 → EReal) (d : Fin 128) : EReal :=
  ∑ n, join vc v n d * soft (fun n => dotOf q (join kc k n)) n

theorem dot_real (q : Fin 128 → ℝ) (kc : Fin 256 → Fin 128 → ℝ) (k : Fin 4096 → Fin 128 → ℝ) (n : Fin 4352) :
    dotOf (fun j => (q j : EReal)) (join (fun n j => (kc n j : EReal)) (fun n j => (k n j : EReal)) n)
      = ((∑ j, q j * join (kc · j) (k · j) n : ℝ) : EReal) := by
  rw [coe_sum]
  simp only [dotOf, join_apply, join_coe, EReal.coe_mul]

/-- Where the query, the keys and the values are real numbers, the kernel's row is the reference's. -/
theorem row_real {q : Fin 128 → EReal} {kc vc : Fin 256 → Fin 128 → EReal} {k v : Fin 4096 → Fin 128 → EReal}
    (hq : ∀ j, IsReal (q j)) (hkc : ∀ n j, IsReal (kc n j)) (hvc : ∀ n j, IsReal (vc n j)) (hk : ∀ n j, IsReal (k n j))
    (hv : ∀ n j, IsReal (v n j)) (d : Fin 128) : gqRow q kc vc k v d = refRow q kc vc k v d := by
  choose q' hq using hq
  choose kc' hkc using hkc
  choose vc' hvc using hvc
  choose k' hk using hk
  choose v' hv using hv
  obtain rfl : q = fun j => (q' j : EReal) := funext hq
  obtain rfl : kc = fun n j => (kc' n j : EReal) := funext fun n => funext fun j => hkc n j
  obtain rfl : vc = fun n j => (vc' n j : EReal) := funext fun n => funext fun j => hvc n j
  obtain rfl : k = fun n j => (k' n j : EReal) := funext fun n => funext fun j => hk n j
  obtain rfl : v = fun n j => (v' n j : EReal) := funext fun n => funext fun j => hv n j
  unfold gqRow refRow
  simp only [dot_real, mean_real, soft_real, join_apply, join_coe, ← EReal.coe_mul, ← coe_sum]
  exact congrArg Real.toEReal (Finset.sum_congr rfl fun n _ => mul_comm _ _)

end Cert.Gq

end
-- ==== Proof.GqOut.lean ====
/- The grouped-query attention kernel's block, read at an index: every row of every head is the kernel's row of the
   blocks' entries. -/
module

public import proofs.«01_k».proof.Proof.GqBlock
public import proofs.«01_k».proof.Proof.GqRow

@[expose] public section

set_option maxRecDepth 16384

noncomputable section

namespace Cert.Gq

open Cert.Kernel6Ideal Cert.Kernel6Ideal.Gen Cert.Attn Idealize.ShloMosaic Idealize.ShloMosaic.TcCoe

section Scores
variable (q : Fin 4 → Vec Ideal S1x32x128 .bf16) (kc : Vec Ideal S1x256x128 .bf16) (k : Vec Ideal S1x4096x128 .bf16)

/-- A head's row among the 128 stacked rows. -/
def stacked (j : Fin 4) (r : Fin 32) : Fin 128 := ⟨j * 32 + r, by omega⟩

theorem stack0 (r : Fin 32) (e : Fin 128) : k0_pay3 (q 0) (q 1) (q 2) (q 3) (ix2 ⟨r, by omega⟩ e) = q 0 (ix3 0 r e) := by
  pointwise [k0_pay3]

theorem stack1 (r : Fin 32) (e : Fin 128) : k0_pay3 (q 0) (q 1) (q 2) (q 3) (ix2 ⟨32 + r, by omega⟩ e) = q 1 (ix3 0 r e) := by
  pointwise [k0_pay3]

theorem stack2 (r : Fin 32) (e : Fin 128) : k0_pay3 (q 0) (q 1) (q 2) (q 3) (ix2 ⟨64 + r, by omega⟩ e) = q 2 (ix3 0 r e) := by
  pointwise [k0_pay3]
  rw [dif_neg (by omega), dif_neg (by omega), dif_pos (by omega)]
  exact congrArg (fun n => q 2 (ix3 0 n e)) (Fin.ext (by change 64 + (r : ℕ) - 32 - 32 = r; omega))

theorem stack3 (r : Fin 32) (e : Fin 128) : k0_pay3 (q 0) (q 1) (q 2) (q 3) (ix2 ⟨96 + r, by omega⟩ e) = q 3 (ix3 0 r e) := by
  pointwise [k0_pay3]
  rw [dif_neg (by omega), dif_neg (by omega), dif_neg (by omega)]
  exact congrArg (fun n => q 3 (ix3 0 n e)) (Fin.ext (by change 96 + (r : ℕ) - 32 - 32 - 32 = r; omega))

/-- The stacked query rows. -/
theorem stack_apply (j : Fin 4) (r : Fin 32) (e : Fin 128) :
    k0_pay3 (q 0) (q 1) (q 2) (q 3) (ix2 (stacked j r) e) = q j (ix3 0 r e) := by
  match j with
  | 0 => exact (congrArg (fun n => k0_pay3 (q 0) (q 1) (q 2) (q 3) (ix2 n e)) (Fin.ext (by simp [stacked]))).trans (stack0 q r e)
  | 1 => exact (congrArg (fun n => k0_pay3 (q 0) (q 1) (q 2) (q 3) (ix2 n e)) (Fin.ext (by simp [stacked]))).trans (stack1 q r e)
  | 2 => exact (congrArg (fun n => k0_pay3 (q 0) (q 1) (q 2) (q 3) (ix2 n e)) (Fin.ext (by simp [stacked]))).trans (stack2 q r e)
  | 3 => exact (congrArg (fun n => k0_pay3 (q 0) (q 1) (q 2) (q 3) (ix2 n e)) (Fin.ext (by simp [stacked]))).trans (stack3 q r e)

variable (q0 q1 q2 q3 : Vec Ideal S1x32x128 .bf16)

theorem ctx_apply (r : Fin 128) (n : Fin 256) : k0_pay4 q0 q1 q2 q3 kc (ix3 0 r n)
    = dotOf (fun e => k0_pay3 q0 q1 q2 q3 (ix2 r e)) (fun e => kc (ix3 0 n e)) := by
  pointwise [k0_pay4, dotOf]

theorem lat_apply (r : Fin 128) (n : Fin 4096) : k0_pay5 q0 q1 q2 q3 k (ix3 0 r n)
    = dotOf (fun e => k0_pay3 q0 q1 q2 q3 (ix2 r e)) (fun e => k (ix3 0 n e)) := by
  pointwise [k0_pay5, dotOf]

/-- A row of the scores. -/
theorem both_apply (r : Fin 128) (n : Fin 4352) : both (k0_pay4 q0 q1 q2 q3 kc) (k0_pay5 q0 q1 q2 q3 k) (ix3 0 r n)
    = dotOf (fun e => k0_pay3 q0 q1 q2 q3 (ix2 r e)) (join (fun n e => kc (ix3 0 n e)) (fun n e => k (ix3 0 n e)) n) := by
  unfold both join
  by_cases h : (n : ℕ) < 256
  · rw [dif_pos h]
    exact (dif_pos h).trans (ctx_apply kc q0 q1 q2 q3 r _)
  · rw [dif_neg h]
    exact (dif_neg h).trans (lat_apply k q0 q1 q2 q3 r _)

end Scores

section Pays
variable (s : Vec Ideal S1x128x4352 .f32) (vc : Vec Ideal S1x256x128 .bf16) (v : Vec Ideal S1x4096x128 .bf16)

/-- The weighted mean of the values, of every stacked row. -/
def meanOf (r d : Fin 128) : EReal := mean (fun n => s (ix3 0 r n)) (fun n => vc (ix3 0 n d)) (fun n => v (ix3 0 n d))

theorem mean_apply (r d : Fin 128) : k0_pay14 (k0_pay11 s) (k0_pay12 s) (k0_pay13 s) vc v (ix2 r d) = meanOf s vc v r d := by
  pointwise [k0_pay14, k0_pay13, k0_pay12, k0_pay11, k0_pay10, meanOf, mean, weight]
  rfl

theorem pay0 (r : Fin 32) (d : Fin 128) : k0_pay15 (k0_pay11 s) (k0_pay12 s) (k0_pay13 s) vc v (ix3 0 r d)
    = meanOf s vc v (stacked 0 r) d := by
  rw [← mean_apply]
  pointwise [k0_pay15]
  congr 2
  exact Fin.ext (by simp [stacked])

theorem pay1 (r : Fin 32) (d : Fin 128) : k0_pay16 (k0_pay11 s) (k0_pay12 s) (k0_pay13 s) vc v (ix3 0 r d)
    = meanOf s vc v (stacked 1 r) d := by
  rw [← mean_apply]
  pointwise [k0_pay16]
  congr 2

theorem pay2 (r : Fin 32) (d : Fin 128) : k0_pay17 (k0_pay11 s) (k0_pay12 s) (k0_pay13 s) vc v (ix3 0 r d)
    = meanOf s vc v (stacked 2 r) d := by
  rw [← mean_apply]
  pointwise [k0_pay17]
  congr 2

theorem pay3 (r : Fin 32) (d : Fin 128) : k0_pay18 (k0_pay11 s) (k0_pay12 s) (k0_pay13 s) vc v (ix3 0 r d)
    = meanOf s vc v (stacked 3 r) d := by
  rw [← mean_apply]
  pointwise [k0_pay18]
  congr 2

end Pays

/-- A head's lane in a block's row of 512. -/
def col (j : Fin 4) (d : Fin 128) : Fin 512 := ⟨j * 128 + d, by omega⟩

/-- A block lane's head and its place there. -/
def colHead (d : Fin 512) : Fin 4 := ⟨d / 128, by omega⟩

def colPlace (d : Fin 512) : Fin 128 := ⟨d % 128, by omega⟩

variable (x0 : Vec Ideal S1x512x512 .bf16) (x1 x2 : Vec Ideal S1x256x128 .bf16) (x3 x4 : Vec Ideal S1x4096x128 .bf16)

/-- The block's entry at a row, a head and a lane of the head. -/
def entry (r : Fin 512) (j : Fin 4) (d : Fin 128) : EReal :=
  gqRow (fun e => x0 (ix3 0 r (col j e))) (fun n e => x1 (ix3 0 n e)) (fun n e => x2 (ix3 0 n e))
    (fun n e => x3 (ix3 0 n e)) (fun n e => x4 (ix3 0 n e)) d

theorem entry_of {q : Fin 128 → EReal} {kc vc : Fin 256 → Fin 128 → EReal} {k v : Fin 4096 → Fin 128 → EReal} {r : Fin 512} {j : Fin 4}
    (h0 : ∀ e, x0 (ix3 0 r (col j e)) = q e) (h1 : ∀ n e, x1 (ix3 0 n e) = kc n e) (h2 : ∀ n e, x2 (ix3 0 n e) = vc n e)
    (h3 : ∀ n e, x3 (ix3 0 n e) = k n e) (h4 : ∀ n e, x4 (ix3 0 n e) = v n e) (d : Fin 128) :
    entry x0 x1 x2 x3 x4 r j d = gqRow q kc vc k v d := by
  unfold entry
  simp only [h0, h1, h2, h3, h4]

/-- The steps' query rows. -/
abbrev loads (i j : ℕ) (hi : i < 16) (hj : j < 4) : Vec Ideal S1x32x128 .bf16 := View.ld x0 (piece i j hi hj)

/-- The scores that a step reads. -/
abbrev scoresOf (i : ℕ) (hi : i < 16) : Vec Ideal S1x128x4352 .f32 := both (ctxOf (loads x0) x1 i hi) (latOf (loads x0) x3 i hi)

/-- A step's mean is the block's entry. -/
theorem step_mean (i : ℕ) (hi : i < 16) (j : Fin 4) (r : Fin 32) (d : Fin 128) :
    meanOf (scoresOf x0 x1 x3 i hi) x2 x4 (stacked j r) d = entry x0 x1 x2 x3 x4 ⟨32 * i + r, by omega⟩ j d := by
  unfold meanOf entry gqRow
  refine congrArg (fun s => mean s _ _) (funext fun n => ?_)
  refine (both_apply _ _ _ _ _ _ _ _).trans (congrArg (fun q => dotOf q _) (funext fun e => ?_))
  refine (stack_apply (fun j => loads x0 i j hi j.isLt) j r e).trans ?_
  refine congrArg x0 (funext fun a => Fin.ext ?_)
  refine (ValueKit.rect_emb_unit_val (s := S1x512x512) ![0, 32 * i, 128 * (j : ℕ)] S1x32x128.size (inPiece hi j.isLt) (ix3 0 r e) a).trans ?_
  match a with
  | 0 => rfl
  | 1 => rfl
  | 2 => exact congrArg (· + (e : ℕ)) (mul_comm _ _)

/-- The block as a function of its index. -/
def block : S1x512x512.Idx → Elt Ideal .bf16 := fun z => entry x0 x1 x2 x3 x4 (z 1) (colHead (z 2)) (colPlace (z 2))

/-- A step's store of a head, read at an index of its rows. -/
theorem store_apply (i : ℕ) (hi : i < 16) (j : Fin 4) (p : Vec Ideal S1x32x128 .bf16)
    (hp : ∀ r d, p (ix3 0 r d) = meanOf (scoresOf x0 x1 x3 i hi) x2 x4 (stacked j r) d) (x : S1x32x128.Idx) :
    p x = block x0 x1 x2 x3 x4 ((piece i j hi j.isLt).emb x) := by
  have e1 : ((piece i j hi j.isLt).emb x 1 : ℕ) = 32 * i + x 1 :=
    ValueKit.rect_emb_unit_val (s := S1x512x512) ![0, 32 * i, 128 * (j : ℕ)] S1x32x128.size (inPiece hi j.isLt) x 1
  have e2 : ((piece i j hi j.isLt).emb x 2 : ℕ) = 128 * j + x 2 :=
    ValueKit.rect_emb_unit_val (s := S1x512x512) ![0, 32 * i, 128 * (j : ℕ)] S1x32x128.size (inPiece hi j.isLt) x 2
  have b2 : (x 2 : ℕ) < 128 := (x 2).isLt
  have ex : x = ix3 0 (x 1) (x 2) := by
    funext a
    match a with
    | 0 => exact Subsingleton.elim (α := Fin 1) _ _
    | 1 => rfl
    | 2 => rfl
  have h1 : (piece i j hi j.isLt).emb x 1 = (⟨32 * i + x 1, by have : (x 1 : ℕ) < 32 := (x 1).isLt; omega⟩ : Fin 512) := Fin.ext e1
  have h2 : colHead ((piece i j hi j.isLt).emb x 2) = j := Fin.ext (by change ((piece i j hi j.isLt).emb x 2 : ℕ) / 128 = j; omega)
  have h3 : colPlace ((piece i j hi j.isLt).emb x 2) = x 2 := Fin.ext (by change ((piece i j hi j.isLt).emb x 2 : ℕ) % 128 = x 2; omega)
  unfold block
  rw [h1, h2, h3]
  exact (congrArg p ex).trans ((hp _ _).trans (step_mean x0 x1 x2 x3 x4 i hi j (x 1) (x 2)))

/-- What a step stores is the block's, if what was stored before is. -/
theorem store_pieces (i : ℕ) (hi : i < 16) {L : List (View.Piece (Elt Ideal) S1x512x512 .bf16)}
    (hL : View.PiecesOf (block x0 x1 x2 x3 x4) L) :
    View.PiecesOf (block x0 x1 x2 x3 x4) (store x2 x4 i hi (scoresOf x0 x1 x3 i hi) L) :=
  ⟨store_apply x0 x1 x2 x3 x4 i hi 3 _ (pay3 _ _ _), store_apply x0 x1 x2 x3 x4 i hi 2 _ (pay2 _ _ _),
    store_apply x0 x1 x2 x3 x4 i hi 1 _ (pay1 _ _ _), store_apply x0 x1 x2 x3 x4 i hi 0 _ (pay0 _ _ _), hL⟩

section Stores
variable {κ : Kind} {sp : Space} (v : View sig κ sp S2x128x4352 .f32)

/-- Every store of the steps but the last is the block's. -/
theorem stores_pieces : ∀ (n : ℕ) (h : n ≤ 15),
    View.PiecesOf (block x0 x1 x2 x3 x4) (stores v (loads x0) x1 x2 x3 x4 n h)
  | 0, _ => trivial
  | n + 1, h => by
    rw [stores, puts, puts, read_other _ _ _ _ _ _ _ _ _ _ (by omega)]
    exact store_pieces x0 x1 x2 x3 x4 n _ (stores_pieces n _)

/-- Every store of the sixteen steps is the block's. -/
theorem steps_pieces : View.PiecesOf (block x0 x1 x2 x3 x4) (steps v (loads x0) x1 x2 x3 x4) := by
  have e : v.readCov (puts (loads x0) x1 x3 16 le_rfl) (half 1 (by decide)) = scoresOf x0 x1 x3 15 (by decide) :=
    read_put v _ _ _ 1 (by decide)
  rw [steps, e]
  exact store_pieces x0 x1 x2 x3 x4 15 _ (stores_pieces x0 x1 x2 x3 x4 v 15 _)

/-- The block that the body stores, read at an index. -/
theorem block_apply (y : S1x512x512.Idx) : View.canon (steps v (loads x0) x1 x2 x3 x4) y = block x0 x1 x2 x3 x4 y :=
  View.canon_apply_of_pieces (block x0 x1 x2 x3 x4) _ (View.PiecesOf.mem (steps_pieces x0 x1 x2 x3 x4 v)) y
    (View.cover_of_tiledL (s := S1x512x512) _ S1x32x128.size (by rfl) y)

end Stores

end Cert.Gq

end
-- ==== Proof.GqArr.lean ====
/- The grouped-query attention kernel's result array after the run: every row of every head is the kernel's row of the
   arguments' entries. -/
module

public import proofs.«01_k».proof.Proof.GqOut

@[expose] public section

set_option maxRecDepth 16384

noncomputable section

namespace Cert.Gq

open Cert.Kernel6Ideal Cert.Kernel6Ideal.Gen Cert.Attn Idealize.ShloMosaic Idealize.SL.Sem Idealize.ShloMosaic.TcCoe

/-- A query head's lane in a row of 1024: the two groups of four heads lie one after the other. -/
def qlane (g : Fin 2) (j : Fin 4) (d : Fin 128) : Fin 1024 := ⟨g * 512 + j * 128 + d, by omega⟩

/-- A key head's lane in a row of 256. -/
def klane (g : Fin 2) (d : Fin 128) : Fin 256 := ⟨g * 128 + d, by omega⟩

/-- A lane's group, its head in the group and its place in the head. -/
def groupOf (d : Fin 1024) : Fin 2 := ⟨d / 512, by omega⟩

def memberOf (d : Fin 1024) : Fin 4 := ⟨d / 128 % 4, by omega⟩

def spotOf (d : Fin 1024) : Fin 128 := ⟨d % 128, by omega⟩

/-- The kernel's attention of every row and head of the arrays. -/
def attn (q : Vec Ideal S8x4096x1024 .bf16) (kc vc : Vec Ideal S8x256x256 .bf16) (k v : Vec Ideal S8x4096x256 .bf16)
    (b : Fin 8) (i : Fin 4096) (g : Fin 2) (j : Fin 4) (d : Fin 128) : EReal :=
  gqRow (fun e => q (ix3 b i (qlane g j e))) (fun n e => kc (ix3 b n (klane g e))) (fun n e => vc (ix3 b n (klane g e)))
    (fun n e => k (ix3 b n (klane g e))) (fun n e => v (ix3 b n (klane g e))) d

/-- Where each window's block lies at a grid point. -/
theorem idx : ∀ t : Fin cfg0.N, win0_0.index t = ![(t : ℕ) / 16, (t : ℕ) % 8, (t : ℕ) / 8 % 2]
    ∧ win0_1.index t = ![(t : ℕ) / 16, 0, (t : ℕ) / 8 % 2] ∧ win0_2.index t = ![(t : ℕ) / 16, 0, (t : ℕ) / 8 % 2]
    ∧ win0_3.index t = ![(t : ℕ) / 16, 0, (t : ℕ) / 8 % 2] ∧ win0_4.index t = ![(t : ℕ) / 16, 0, (t : ℕ) / 8 % 2]
    ∧ win0_5.index t = ![(t : ℕ) / 16, (t : ℕ) % 8, (t : ℕ) / 8 % 2] :=
  (by decide +kernel : ∀ t : Fin grid0.N, _)

theorem points : cfg0.N = 128 := by decide +kernel

variable (m : (ℓ : Loc nD τ sig) → Buf (Elt Ideal) ℓ) (c : Dev nD) (t : Fin cfg0.N)

/-- The batch entry of a grid point. -/
def bat : Fin 8 := ⟨t / 16, by have h : (t : ℕ) < 128 := lt_of_lt_of_eq t.isLt points; omega⟩

/-- The group of a grid point. -/
def group : Fin 2 := ⟨t / 8 % 2, by omega⟩

/-- The array's row of a grid point's block row. -/
def row (r : Fin 512) : Fin 4096 := ⟨t % 8 * 512 + r, by omega⟩

theorem blk0 (r : Fin 512) (j : Fin 4) (d : Fin 128) :
    iblk m c 0 t (ix3 0 r (col j d)) = m ((c : Thread nD τ).loc main_arg0) (ix3 (bat t) (row t r) (qlane (group t) j d)) := by
  obtain ⟨h0, h1, h2, h3, h4, h5⟩ := idx t
  blk_simp [iblk]
  rw [V_main_arg0]
  congr 1
  blk_ext [h0, bat, row, group, qlane, col]

theorem blk1 (n : Fin 256) (d : Fin 128) :
    iblk m c 1 t (ix3 0 n d) = m ((c : Thread nD τ).loc main_arg1) (ix3 (bat t) n (klane (group t) d)) := by
  obtain ⟨h0, h1, h2, h3, h4, h5⟩ := idx t
  blk_simp [iblk]
  rw [V_main_arg1]
  congr 1
  blk_ext [h1, bat, group, klane]

theorem blk2 (n : Fin 256) (d : Fin 128) :
    iblk m c 2 t (ix3 0 n d) = m ((c : Thread nD τ).loc main_arg2) (ix3 (bat t) n (klane (group t) d)) := by
  obtain ⟨h0, h1, h2, h3, h4, h5⟩ := idx t
  blk_simp [iblk]
  rw [V_main_arg2]
  congr 1
  blk_ext [h2, bat, group, klane]

theorem blk3 (n : Fin 4096) (d : Fin 128) :
    iblk m c 3 t (ix3 0 n d) = m ((c : Thread nD τ).loc main_arg3) (ix3 (bat t) n (klane (group t) d)) := by
  obtain ⟨h0, h1, h2, h3, h4, h5⟩ := idx t
  blk_simp [iblk]
  rw [V_main_arg3]
  congr 1
  blk_ext [h3, bat, group, klane]

theorem blk4 (n : Fin 4096) (d : Fin 128) :
    iblk m c 4 t (ix3 0 n d) = m ((c : Thread nD τ).loc main_arg4) (ix3 (bat t) n (klane (group t) d)) := by
  obtain ⟨h0, h1, h2, h3, h4, h5⟩ := idx t
  blk_simp [iblk]
  rw [V_main_arg4]
  congr 1
  blk_ext [h4, bat, group, klane]

theorem emb5 (r : Fin 512) (d : Fin 512) :
    ((cfg0.win 5).blk t).view.emb (ix3 0 r d) = ix3 (bat t) (row t r) (qlane (group t) (colHead d) (colPlace d)) := by
  obtain ⟨h0, h1, h2, h3, h4, h5⟩ := idx t
  blk_ext [h5, bat, row, group, qlane, colHead, colPlace]

theorem group_lane (g : Fin 2) (j : Fin 4) (d : Fin 128) : groupOf (qlane g j d) = g :=
  Fin.ext (by change ((g : ℕ) * 512 + j * 128 + d) / 512 = g; omega)

theorem member_lane (g : Fin 2) (j : Fin 4) (d : Fin 128) : memberOf (qlane g j d) = j :=
  Fin.ext (by change ((g : ℕ) * 512 + j * 128 + d) / 128 % 4 = j; omega)

theorem spot_lane (g : Fin 2) (j : Fin 4) (d : Fin 128) : spotOf (qlane g j d) = d :=
  Fin.ext (by change ((g : ℕ) * 512 + j * 128 + d) % 128 = d; omega)

/-- What the body stores at a grid point. -/
theorem outsAt_apply (r : Fin 512) (d : Fin 512) : outsAt0 m c t (ix3 0 r d) =
    attn (m ((c : Thread nD τ).loc main_arg0)) (m ((c : Thread nD τ).loc main_arg1)) (m ((c : Thread nD τ).loc main_arg2))
      (m ((c : Thread nD τ).loc main_arg3)) (m ((c : Thread nD τ).loc main_arg4)) (bat t) (row t r) (group t) (colHead d) (colPlace d) := by
  unfold outsAt0
  rw [out_eq]
  refine (block_apply _ _ _ _ _ _ _).trans ?_
  exact entry_of _ _ _ _ _ (blk0 m c t r (colHead d)) (blk1 m c t) (blk2 m c t) (blk3 m c t) (blk4 m c t) (colPlace d)

/-- The result array after the run. -/
theorem arr : (dats m 0 c).arrAt 5 cfg0.N = fun i =>
    attn (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) (groupOf (i 2)) (memberOf (i 2)) (spotOf (i 2)) := by
  refine (dats m 0 c).arrAt_eq_of_covers 5 _ (by decide +kernel) fun t hf y => ?_
  blk_simp
  rw [after0_5]
  idx_vars y
  obtain rfl : y0 = 0 := Subsingleton.elim _ _
  rw [outsAt_apply]
  have e := emb5 t y1 y2
  blk_simp at e
  simp only [e]
  change attn _ _ _ _ _ (bat t) (row t y1) (group t) (colHead y2) (colPlace y2) = attn _ _ _ _ _ (bat t) (row t y1)
    (groupOf (qlane (group t) (colHead y2) (colPlace y2))) (memberOf (qlane (group t) (colHead y2) (colPlace y2)))
    (spotOf (qlane (group t) (colHead y2) (colPlace y2)))
  rw [group_lane, member_lane, spot_lane]

end Cert.Gq

end
-- ==== Proof.GqRef.lean ====
/- The grouped-query attention's reference, read at an index. -/
module

public import proofs.«01_k».proof.Proof.GqArr
public import proofs.«01_k».proof.Proof.Gen.Reference6Ideal.Read

@[expose] public section

set_option maxRecDepth 16384

noncomputable section

namespace Cert.Gq

open Cert.Reference6Ideal Cert.Reference6Ideal.Gen Cert.Reference6Ideal.Read Cert.Attn Idealize.ShloMosaic

variable (x0 : Vec Ideal S8x4096x1024 .bf16) (x1 x2 : Vec Ideal S8x256x256 .bf16) (x3 x4 : Vec Ideal S8x4096x256 .bf16)
  (b : Fin 8) (i : Fin 4096) (g : Fin 2) (j : Fin 4)

theorem ref_keys (n : Fin 4352) (d : Fin 128) : val_main_v4 (F := Ideal) x1 x3 (ix4 b n g d)
    = join (fun n d => x1 (ix3 b n (klane g d))) (fun n d => x3 (ix3 b n (klane g d))) n d := by
  rw [join_apply]
  pointwise [val_main_v4, val_main_v3, val_main_v2, val_main_v1, val_main_v0, join]
  rfl

theorem ref_vals (n : Fin 4352) (d : Fin 128) : val_main_v9 (F := Ideal) x2 x4 (ix4 b n g d)
    = join (fun n d => x2 (ix3 b n (klane g d))) (fun n d => x4 (ix3 b n (klane g d))) n d := by
  rw [join_apply]
  pointwise [val_main_v9, val_main_v8, val_main_v7, val_main_v6, val_main_v5, join]
  rfl

theorem ref_query (d : Fin 128) : val_main_v11 (F := Ideal) x0 (ix5 b i g j d) = x0 (ix3 b i (qlane g j d)) := by
  pointwise [val_main_v11, val_main_v10]
  refine congrArg (fun n => x0 (ix3 b i n)) (Fin.ext ?_)
  simp only [qlane]

theorem ref_dot (n : Fin 4352) : val_main_v12 (F := Ideal) x0 x1 x3 (ix5 b g n i j)
    = ∑ d, val_main_v4 (F := Ideal) x1 x3 (ix4 b n g d) * val_main_v11 (F := Ideal) x0 (ix5 b i g j d) := by
  pointwise [val_main_v12]

theorem ref_turned (n : Fin 4352) : val_main_v13 (F := Ideal) x0 x1 x3 (ix5 b g j i n)
    = val_main_v12 (F := Ideal) x0 x1 x3 (ix5 b g n i j) := by
  pointwise [val_main_v13]

/-- The scores of a head's row. -/
theorem ref_score (n : Fin 4352) : val_main_v13 (F := Ideal) x0 x1 x3 (ix5 b g j i n)
    = dotOf (fun d => x0 (ix3 b i (qlane g j d))) (join (fun n d => x1 (ix3 b n (klane g d))) (fun n d => x3 (ix3 b n (klane g d))) n) := by
  rw [ref_turned, ref_dot]
  simp only [ref_keys, ref_query]
  exact Finset.sum_congr rfl fun d _ => mul_comm _ _

theorem ref_scaled (n : Fin 4352) : val_main_v16 (F := Ideal) x0 x1 x3 (ix5 b g j i n)
    = val_main_v13 (F := Ideal) x0 x1 x3 (ix5 b g j i n) * Ideal.log (Ideal.ofBits .f32 0x40000000#32) := by
  pointwise [val_main_v16, val_main_v15, val_main_v14, val_main_cst]

theorem ref_fold : val_main_v17 (F := Ideal) x0 x1 x3 (ix4 b g j i)
    = Finset.univ.fold max low fun n => val_main_v16 (F := Ideal) x0 x1 x3 (ix5 b g j i n) := by
  pointwise [val_main_v17, val_main_cst_0]

theorem ref_max : val_main_v19 (F := Ideal) x0 x1 x3 (ix4 b g j i)
    = max low (val_main_v17 (F := Ideal) x0 x1 x3 (ix4 b g j i)) := by
  rw [val_main_v19_apply, val_main_v18_apply]
  rfl

theorem ref_exp (n : Fin 4352) : val_main_v23 (F := Ideal) x0 x1 x3 (ix5 b g j i n)
    = Ideal.exp (val_main_v16 (F := Ideal) x0 x1 x3 (ix5 b g j i n) - val_main_v19 (F := Ideal) x0 x1 x3 (ix4 b g j i)) := by
  pointwise [val_main_v23, val_main_v22, val_main_v21, val_main_v20]

theorem ref_sum : val_main_v24 (F := Ideal) x0 x1 x3 (ix4 b g j i)
    = ∑ n, val_main_v23 (F := Ideal) x0 x1 x3 (ix5 b g j i n) := by
  pointwise [val_main_v24, val_main_cst_2]

theorem ref_div (n : Fin 4352) : val_main_v27 (F := Ideal) x0 x1 x3 (ix5 b g j i n)
    = Ideal.div (val_main_v23 (F := Ideal) x0 x1 x3 (ix5 b g j i n)) (val_main_v24 (F := Ideal) x0 x1 x3 (ix4 b g j i)) := by
  pointwise [val_main_v27, val_main_v26, val_main_v25]

/-- The softmax of a row's scores. -/
theorem ref_soft (n : Fin 4352) : val_main_v27 (F := Ideal) x0 x1 x3 (ix5 b g j i n)
    = soft (fun n => val_main_v13 (F := Ideal) x0 x1 x3 (ix5 b g j i n)) n := by
  rw [ref_div, ref_sum]
  simp only [ref_exp, ref_max, ref_fold, ref_scaled]
  rfl

/-- The softmax's product with the values. -/
theorem ref_out (d : Fin 128) : val_main_v28 (F := Ideal) x0 x1 x2 x3 x4 (ix5 b g d j i)
    = ∑ n, val_main_v9 (F := Ideal) x2 x4 (ix4 b n g d) * val_main_v27 (F := Ideal) x0 x1 x3 (ix5 b g j i n) := by
  pointwise [val_main_v28]

theorem ref_back (d : Fin 128) : val_main_v29 (F := Ideal) x0 x1 x2 x3 x4 (ix5 b i g j d)
    = val_main_v28 (F := Ideal) x0 x1 x2 x3 x4 (ix5 b g d j i) := by
  pointwise [val_main_v29]

theorem ref_heads (d : Fin 1024) : val_main_v31 (F := Ideal) x0 x1 x2 x3 x4 (ix3 b i d)
    = val_main_v29 (F := Ideal) x0 x1 x2 x3 x4 (ix5 b i (groupOf d) (memberOf d) (spotOf d)) := by
  pointwise [val_main_v31, val_main_v30]
  rfl

/-- The reference at an index, as a row of one head. -/
theorem ref_apply (d : Fin 1024) : val_main_v31 (F := Ideal) x0 x1 x2 x3 x4 (ix3 b i d)
    = refRow (fun e => x0 (ix3 b i (qlane (groupOf d) (memberOf d) e))) (fun n e => x1 (ix3 b n (klane (groupOf d) e)))
      (fun n e => x2 (ix3 b n (klane (groupOf d) e))) (fun n e => x3 (ix3 b n (klane (groupOf d) e)))
      (fun n e => x4 (ix3 b n (klane (groupOf d) e))) (spotOf d) := by
  rw [ref_heads, ref_back, ref_out]
  simp only [ref_vals, ref_soft, ref_score]
  rfl

/-- Where the arguments are finite, the kernel's result array is the reference's. -/
theorem attn_eq (h0 : ∀ i, IsReal (x0 i)) (h1 : ∀ i, IsReal (x1 i)) (h2 : ∀ i, IsReal (x2 i)) (h3 : ∀ i, IsReal (x3 i))
    (h4 : ∀ i, IsReal (x4 i)) : val_main_v31 (F := Ideal) x0 x1 x2 x3 x4
      = fun i => attn x0 x1 x2 x3 x4 (i 0) (i 1) (groupOf (i 2)) (memberOf (i 2)) (spotOf (i 2)) := by
  funext y
  idx_vars y
  rw [ref_apply]
  exact (row_real (fun j => h0 _) (fun n j => h1 _) (fun n j => h2 _) (fun n j => h3 _) (fun n j => h4 _) _).symm

end Cert.Gq

end
-- ==== Proof.GqClaim.lean ====
/- The grouped-query attention's claim: where its precondition holds, the kernel ends with the reference's result. -/
module

public import proofs.«01_k».proof.Defs
public import proofs.«01_k».proof.Proof.AttnClaim
public import proofs.«01_k».proof.Proof.GqRef
public import proofs.«01_k».proof.Proof.Gen.Pre_finite6

@[expose] public section

set_option maxRecDepth 16384

noncomputable section

namespace Cert.Gq

open Cert.Attn Idealize.ShloMosaic Idealize.SL.Sem

/-- The kernel and its reference end with the same result array, where the precondition holds. -/
theorem attention : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m g m' g' hpre hag
  refine ⟨fun c => _, Cert.Kernel6Ideal.Value.run_blocks m g, ?_⟩
  refine (θ_run _ _ _).mono (fun r h c => ?_) (Cert.Reference6Ideal.Value.run m' g')
  obtain ⟨h0, h1⟩ := h c
  refine ⟨?_, h1⟩
  obtain ⟨a0, a1, a2, a3, a4⟩ := hag c
  obtain ⟨p0, p1, p2, p3, p4⟩ := hpre c
  rw [h0, Cert.Reference6Ideal.Read.val_main_v31_eq, a0, a1, a2, a3, a4]
  refine (attn_eq _ _ _ _ _ (fun i => real_of_lt _ (congrFun p0 i)) (fun i => real_of_lt _ (congrFun p1 i)) (fun i => real_of_lt _ (congrFun p2 i))
    (fun i => real_of_lt _ (congrFun p3 i)) (fun i => real_of_lt _ (congrFun p4 i))).trans ?_
  exact (arr m c).symm

end Cert.Gq

end
-- ==== Proof.DaRow.lean ====
/- One row of the differential attention's projection on extended reals: the projected row and the turn that the rotary
   embedding gives its heads, in the reference's form and in the kernel's. Nothing here mentions a program. -/
module

public import proofs.«01_k».proof.Proof.FfnRow

@[expose] public section

noncomputable section

namespace Cert.Da

open Idealize.ShloMosaic

/-- One number of the projected row: the `p`-th third of the weights' columns gives the queries, the keys, the values. -/
def proj (x : Fin 1024 → EReal) (w : Fin 1024 → Fin 3072 → EReal) (p : Fin 3) (d : Fin 1024) : EReal :=
  ∑ k, x k * w k ⟨p * 1024 + d, by omega⟩

/-- The lane that is turned together with a lane: the same place in the other half of its head of 64. -/
def mate (d : Fin 1024) : Fin 1024 :=
  if h : (d : ℕ) % 64 < 32 then ⟨d + 32, by omega⟩ else ⟨d - 32, by omega⟩

/-- A lane's place in its half of a head, which says the angle it is turned by. -/
def place (d : Fin 1024) : Fin 32 := ⟨d % 32, by omega⟩

/-- The row with its heads turned: the first half of a head takes the difference, the second half the sum. -/
def turn (y : Fin 1024 → EReal) (c s : Fin 32 → EReal) (d : Fin 1024) : EReal :=
  if (d : ℕ) % 64 < 32 then y d * c (place d) - y (mate d) * s (place d)
  else y d * c (place d) + y (mate d) * s (place d)

/-- A lane's place in its slab of 128 lanes. -/
def slot (d : Fin 1024) : Fin 128 := ⟨d % 128, by omega⟩

/-- The kernel's table of cosines over a slab: the 32 angles four times over. -/
def cosRow (c : Fin 32 → EReal) (l : Fin 128) : EReal := c ⟨l % 32, by omega⟩

/-- The kernel's table of sines over a slab: negative over the first half of each head. -/
def sinRow (s : Fin 32 → EReal) (l : Fin 128) : EReal :=
  if (l : ℕ) % 64 < 32 then -s ⟨l % 32, by omega⟩ else s ⟨l % 32, by omega⟩

/-- The kernel's turn: one formula for both halves, with the tables over a slab. -/
def spin (y : Fin 1024 → EReal) (c s : Fin 128 → EReal) (d : Fin 1024) : EReal :=
  y d * c (slot d) + y (mate d) * s (slot d)

/-- The kernel's turn is the reference's. -/
theorem spin_eq (y : Fin 1024 → EReal) (c s : Fin 32 → EReal) (d : Fin 1024) :
    spin y (cosRow c) (sinRow s) d = turn y c s d := by
  have h1 : (⟨(slot d : ℕ) % 32, by omega⟩ : Fin 32) = place d :=
    Fin.ext (by change (d : ℕ) % 128 % 32 = (d : ℕ) % 32; omega)
  have h2 : ((slot d : ℕ) % 64 < 32) = ((d : ℕ) % 64 < 32) := by
    change ((d : ℕ) % 128 % 64 < 32) = _
    rw [Nat.mod_mod_of_dvd _ (by decide)]
  unfold spin turn cosRow sinRow
  simp only [h1, h2]
  split
  · rw [mul_neg, sub_eq_add_neg]
  · rfl

end Cert.Da

end
-- ==== Proof.DaBlock.lean ====
/- The differential attention's projection kernel's three blocks, read at an index: the queries and the keys are the
   projected row with its heads turned, the values the projected row itself. -/
module

public import proofs.«01_k».proof.Proof.DaRow
public import proofs.«01_k».proof.Proof.Gen.Kernel7Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Da

open Cert.Kernel7Ideal Cert.Kernel7Ideal.Gen Idealize.ShloMosaic Idealize.ShloMosaic.TcCoe

/-- A slab's lanes, each replaced by the lane it is turned with. -/
def mates (x : FVec Ideal S512x128 .f32) : FVec Ideal S512x128 .f32 :=
  select (cmpi .slt (andi (iota .tc S512x128 32 [1] iota_S512x128_d1_w32) (broadcast S512x128 63#32)) (broadcast S512x128 32#32))
    (dynamicRotate 1 96#32 none x rotates_S512x128_d1) (dynamicRotate 1 32#32 none x rotates_S512x128_d1)

/-- The kernel's test of a lane's place in its head of 64. -/
theorem half_test : ∀ l : Fin 128, IntOp.cmpi CmpIPredicate.slt (IntOp.andi (BitVec.ofNat 32 (l : ℕ)) 63#32) 32#32
    = if (l : ℕ) % 64 < 32 then 1#1 else 0#1 := by decide +kernel

theorem mates_apply (x : FVec Ideal S512x128 .f32) (r : Fin 512) (l : Fin 128) : mates x (ix2 r l)
    = if h : (l : ℕ) % 64 < 32 then x (ix2 r ⟨l + 32, by omega⟩) else x (ix2 r ⟨l - 32, by omega⟩) := by
  pointwise [mates]
  rw [half_test]
  by_cases h : (l : ℕ) % 64 < 32
  · rw [if_pos h, dif_pos h]
    refine (if_pos rfl).trans (congrArg (fun n => x (ix2 r n)) (Fin.ext ?_))
    change ((l : ℕ) + 128 - 96) % 128 = l + 32
    omega
  · rw [if_neg h, dif_neg h]
    refine (if_neg (by decide)).trans (congrArg (fun n => x (ix2 r n)) (Fin.ext ?_))
    change ((l : ℕ) + 128 - 32) % 128 = l - 32
    omega

/-- A slab turned by the tables. -/
def turned (c s x : FVec Ideal S512x128 .f32) : FVec Ideal S512x128 .f32 := addf (mulf x c) (mulf (mates x) s)

/-- What is stored for a slab of the keys, and for a slab of the queries, which is scaled. -/
def kStore (c s x : FVec Ideal S512x128 .f32) : FVec Ideal S1x512x128 .bf16 :=
  shapeCast S1x512x128 (truncf .bf16 (turned c s x) bitsLt_bf16_f32) shapeCasts_S512x128_S1x512x128

def qStore (c s x : FVec Ideal S512x128 .f32) : FVec Ideal S1x512x128 .bf16 :=
  shapeCast S1x512x128 (truncf .bf16 (mulf (turned c s x) (broadcast S512x128 (FloatOps.ofBits .f32 0x3E38AA3B#32))) bitsLt_bf16_f32) shapeCasts_S512x128_S1x512x128

/-- What is stored for a slab of the values. -/
def vStore (x : FVec Ideal S512x128 .f32) : FVec Ideal S1x512x128 .bf16 :=
  shapeCast S1x512x128 (truncf .bf16 x bitsLt_bf16_f32) shapeCasts_S512x128_S1x512x128

/-- A slab of 128 lanes of the projected block. -/
abbrev slab (x : FVec Ideal S512x1024 .f32) (n : ℕ) (h : S512x1024.Slices ![0, n] S512x128) : FVec Ideal S512x128 .f32 :=
  extractStridedSlice S512x128 ![0, n] x h

section Stores
variable (x : FVec Ideal S512x1024 .f32) (c s : FVec Ideal S512x128 .f32)

/-- The lane of a slab's lane. -/
def lane (n : ℕ) (hn : n + 128 ≤ 1024) (l : Fin 128) : Fin 1024 := ⟨n + l, by omega⟩

theorem slab_apply (n : ℕ) (hn : n + 128 ≤ 1024) (h : S512x1024.Slices ![0, n] S512x128) (r : Fin 512) (l : Fin 128) :
    slab x n h (ix2 r l) = x (ix2 r (lane n hn l)) := by
  refine congrArg x (funext fun a => Fin.ext ?_)
  match a with
  | 0 => exact Nat.zero_add _
  | 1 => rfl

theorem mates_slab (n : ℕ) (hn : n + 128 ≤ 1024) (h64 : n % 128 = 0) (h : S512x1024.Slices ![0, n] S512x128) (r : Fin 512) (l : Fin 128) :
    mates (slab x n h) (ix2 r l) = x (ix2 r (mate (lane n hn l))) := by
  have e : ((lane n hn l : ℕ) % 64 < 32) = ((l : ℕ) % 64 < 32) := by
    change ((n + l : ℕ) % 64 < 32) = _
    congr 1
    omega
  rw [mates_apply]
  unfold mate
  by_cases hl : (l : ℕ) % 64 < 32
  · rw [dif_pos hl, dif_pos (e ▸ hl), slab_apply x n hn]
    exact congrArg (fun n => x (ix2 r n)) (Fin.ext (Nat.add_assoc _ _ _).symm)
  · rw [dif_neg hl, dif_neg (e ▸ hl), slab_apply x n hn]
    refine congrArg (fun n => x (ix2 r n)) (Fin.ext ?_)
    change n + (l - 32 : ℕ) = n + l - 32
    omega

theorem kStore_apply (z : FVec Ideal S512x128 .f32) (r : Fin 512) (l : Fin 128) : kStore c s z (ix3 0 r l)
    = z (ix2 r l) * c (ix2 r l) + mates z (ix2 r l) * s (ix2 r l) := by
  pointwise [kStore, turned]

theorem qStore_apply (z : FVec Ideal S512x128 .f32) (r : Fin 512) (l : Fin 128) : qStore c s z (ix3 0 r l)
    = (z (ix2 r l) * c (ix2 r l) + mates z (ix2 r l) * s (ix2 r l)) * Ideal.ofBits .f32 0x3E38AA3B#32 := by
  pointwise [qStore, turned]

theorem vStore_apply (z : FVec Ideal S512x128 .f32) (r : Fin 512) (l : Fin 128) : vStore z (ix3 0 r l) = z (ix2 r l) := by
  pointwise [vStore]

/-- The keys' block, the queries' and the values', as functions of their index. -/
def kBlock : S1x512x1024.Idx → Elt Ideal .bf16 := fun z =>
  spin (fun d => x (ix2 (z 1) d)) (fun l => c (ix2 (z 1) l)) (fun l => s (ix2 (z 1) l)) (z 2)

def qBlock : S1x512x1024.Idx → Elt Ideal .bf16 := fun z => kBlock x c s z * Ideal.ofBits .f32 0x3E38AA3B#32

def vBlock : S1x512x1024.Idx → Elt Ideal .bf16 := fun z => x (ix2 (z 1) (z 2))

section Piece
variable (n : ℕ) (h64 : n % 128 = 0) (h : S512x1024.Slices ![0, n] S512x128)
  (inb : ∀ a, ![0, 0, n] a + S1x512x128.size a ≤ S1x512x1024.size a) (y : S1x512x128.Idx)

/-- A slab's place in the stored block. -/
abbrev rect : Rect S1x512x1024 := Rect.unit ![0, 0, n] S1x512x128.size inb

include inb in
theorem bound : n + 128 ≤ 1024 := inb 2

theorem rect1 : (rect n inb).emb y 1 = y 1 :=
  Fin.ext ((ValueKit.rect_emb_unit_val (s := S1x512x1024) ![0, 0, n] S1x512x128.size inb y 1).trans (Nat.zero_add _))

theorem rect2 : (rect n inb).emb y 2 = lane n (bound n inb) (y 2) :=
  Fin.ext (ValueKit.rect_emb_unit_val (s := S1x512x1024) ![0, 0, n] S1x512x128.size inb y 2)

theorem index : y = ix3 0 (y 1) (y 2) := by
  funext a
  match a with
  | 0 => exact Subsingleton.elim (α := Fin 1) _ _
  | 1 => rfl
  | 2 => rfl

include h64 in
theorem slot_at (l : Fin 128) (hn : n + 128 ≤ 1024) : slot (lane n hn l) = l :=
  Fin.ext (by change (n + l : ℕ) % 128 = l; omega)

include h64 in
/-- What is stored for a slab of the keys, read at a row and a lane. -/
theorem k_at (hn : n + 128 ≤ 1024) (r : Fin 512) (l : Fin 128) : kStore c s (slab x n h) (ix3 0 r l)
    = spin (fun d => x (ix2 r d)) (fun l => c (ix2 r l)) (fun l => s (ix2 r l)) (lane n hn l) := by
  unfold spin
  rw [slot_at n h64, kStore_apply, slab_apply x n hn, mates_slab x n hn h64]

include h64 in
/-- A slab of the keys is the block's. -/
theorem k_piece : kStore c s (slab x n h) y = kBlock x c s ((rect n inb).emb y) :=
  (congrArg _ (index y)).trans ((k_at x c s n h64 h (bound n inb) (y 1) (y 2)).trans
    (congrArg₂ (fun r d => spin (fun d => x (ix2 r d)) (fun l => c (ix2 r l)) (fun l => s (ix2 r l)) d) (rect1 n inb y) (rect2 n inb y)).symm)

include h64 in
/-- A slab of the queries is the block's. -/
theorem q_piece : qStore c s (slab x n h) y = qBlock x c s ((rect n inb).emb y) :=
  (congrArg _ (index y)).trans ((qStore_apply c s _ (y 1) (y 2)).trans (congrArg (· * Ideal.ofBits .f32 0x3E38AA3B#32)
    ((kStore_apply c s _ (y 1) (y 2)).symm.trans ((congrArg _ (index y)).symm.trans (k_piece x c s n h64 h inb y)))))

/-- A slab of the values is the block's. -/
theorem v_piece : vStore (slab x n h) y = vBlock x ((rect n inb).emb y) :=
  (congrArg _ (index y)).trans ((vStore_apply _ (y 1) (y 2)).trans ((slab_apply x n (bound n inb) h (y 1) (y 2)).trans
    (congrArg₂ (fun r d => x (ix2 r d)) (rect1 n inb y) (rect2 n inb y)).symm))

end Piece

end Stores

section Out
variable (x0 : Vec Ideal S1x512x1024 .f32) (x1 : Vec Ideal S1x9x1024 .f32) (x2 : Vec Ideal S1024x3072 .bf16) (x3 x4 : Vec Ideal S512x128 .f32)

/-- The block the body stores for the queries. -/
theorem out5_apply (y : S1x512x1024.Idx) : out0_5 x0 x1 x2 x3 x4 y
    = qBlock (k0_pay46 x0 x1 x2 x3 x4) (k0_pay43 x0 x1 x2 x3 x4) (k0_pay44 x0 x1 x2 x3 x4) y := by
  unfold out0_5
  refine View.canon_apply_of_pieces (qBlock (k0_pay46 x0 x1 x2 x3 x4) (k0_pay43 x0 x1 x2 x3 x4) (k0_pay44 x0 x1 x2 x3 x4)) _ (View.PiecesOf.mem ?_) y (cover0_5 _ _ _ _ _ _ _ _ y)
  exact ⟨fun y => q_piece (k0_pay46 x0 x1 x2 x3 x4) (k0_pay43 x0 x1 x2 x3 x4) (k0_pay44 x0 x1 x2 x3 x4) 896 rfl slices_S512x1024_o0_896_S512x128 inb_S1x512x1024_S1x512x128_0_0_896 y,
    fun y => q_piece (k0_pay46 x0 x1 x2 x3 x4) (k0_pay43 x0 x1 x2 x3 x4) (k0_pay44 x0 x1 x2 x3 x4) 768 rfl slices_S512x1024_o0_768_S512x128 inb_S1x512x1024_S1x512x128_0_0_768 y,
    fun y => q_piece (k0_pay46 x0 x1 x2 x3 x4) (k0_pay43 x0 x1 x2 x3 x4) (k0_pay44 x0 x1 x2 x3 x4) 640 rfl slices_S512x1024_o0_640_S512x128 inb_S1x512x1024_S1x512x128_0_0_640 y,
    fun y => q_piece (k0_pay46 x0 x1 x2 x3 x4) (k0_pay43 x0 x1 x2 x3 x4) (k0_pay44 x0 x1 x2 x3 x4) 512 rfl slices_S512x1024_o0_512_S512x128 inb_S1x512x1024_S1x512x128_0_0_512 y,
    fun y => q_piece (k0_pay46 x0 x1 x2 x3 x4) (k0_pay43 x0 x1 x2 x3 x4) (k0_pay44 x0 x1 x2 x3 x4) 384 rfl slices_S512x1024_o0_384_S512x128 inb_S1x512x1024_S1x512x128_0_0_384 y,
    fun y => q_piece (k0_pay46 x0 x1 x2 x3 x4) (k0_pay43 x0 x1 x2 x3 x4) (k0_pay44 x0 x1 x2 x3 x4) 256 rfl slices_S512x1024_o0_256_S512x128 inb_S1x512x1024_S1x512x128_0_0_256 y,
    fun y => q_piece (k0_pay46 x0 x1 x2 x3 x4) (k0_pay43 x0 x1 x2 x3 x4) (k0_pay44 x0 x1 x2 x3 x4) 128 rfl slices_S512x1024_o0_128_S512x128 inb_S1x512x1024_S1x512x128_0_0_128 y,
    fun y => q_piece (k0_pay46 x0 x1 x2 x3 x4) (k0_pay43 x0 x1 x2 x3 x4) (k0_pay44 x0 x1 x2 x3 x4) 0 rfl slices_S512x1024_o0_0_S512x128 inb_S1x512x1024_S1x512x128_0_0_0 y, trivial⟩

/-- The block the body stores for the keys. -/
theorem out6_apply (y : S1x512x1024.Idx) : out0_6 x0 x1 x2 x3 x4 y
    = kBlock (k0_pay47 x0 x1 x2 x3 x4) (k0_pay43 x0 x1 x2 x3 x4) (k0_pay44 x0 x1 x2 x3 x4) y := by
  unfold out0_6
  refine View.canon_apply_of_pieces (kBlock (k0_pay47 x0 x1 x2 x3 x4) (k0_pay43 x0 x1 x2 x3 x4) (k0_pay44 x0 x1 x2 x3 x4)) _ (View.PiecesOf.mem ?_) y (cover0_6 _ _ _ _ _ _ _ _ y)
  exact ⟨fun y => k_piece (k0_pay47 x0 x1 x2 x3 x4) (k0_pay43 x0 x1 x2 x3 x4) (k0_pay44 x0 x1 x2 x3 x4) 896 rfl slices_S512x1024_o0_896_S512x128 inb_S1x512x1024_S1x512x128_0_0_896 y,
    fun y => k_piece (k0_pay47 x0 x1 x2 x3 x4) (k0_pay43 x0 x1 x2 x3 x4) (k0_pay44 x0 x1 x2 x3 x4) 768 rfl slices_S512x1024_o0_768_S512x128 inb_S1x512x1024_S1x512x128_0_0_768 y,
    fun y => k_piece (k0_pay47 x0 x1 x2 x3 x4) (k0_pay43 x0 x1 x2 x3 x4) (k0_pay44 x0 x1 x2 x3 x4) 640 rfl slices_S512x1024_o0_640_S512x128 inb_S1x512x1024_S1x512x128_0_0_640 y,
    fun y => k_piece (k0_pay47 x0 x1 x2 x3 x4) (k0_pay43 x0 x1 x2 x3 x4) (k0_pay44 x0 x1 x2 x3 x4) 512 rfl slices_S512x1024_o0_512_S512x128 inb_S1x512x1024_S1x512x128_0_0_512 y,
    fun y => k_piece (k0_pay47 x0 x1 x2 x3 x4) (k0_pay43 x0 x1 x2 x3 x4) (k0_pay44 x0 x1 x2 x3 x4) 384 rfl slices_S512x1024_o0_384_S512x128 inb_S1x512x1024_S1x512x128_0_0_384 y,
    fun y => k_piece (k0_pay47 x0 x1 x2 x3 x4) (k0_pay43 x0 x1 x2 x3 x4) (k0_pay44 x0 x1 x2 x3 x4) 256 rfl slices_S512x1024_o0_256_S512x128 inb_S1x512x1024_S1x512x128_0_0_256 y,
    fun y => k_piece (k0_pay47 x0 x1 x2 x3 x4) (k0_pay43 x0 x1 x2 x3 x4) (k0_pay44 x0 x1 x2 x3 x4) 128 rfl slices_S512x1024_o0_128_S512x128 inb_S1x512x1024_S1x512x128_0_0_128 y,
    fun y => k_piece (k0_pay47 x0 x1 x2 x3 x4) (k0_pay43 x0 x1 x2 x3 x4) (k0_pay44 x0 x1 x2 x3 x4) 0 rfl slices_S512x1024_o0_0_S512x128 inb_S1x512x1024_S1x512x128_0_0_0 y, trivial⟩

/-- The block the body stores for the values. -/
theorem out7_apply (y : S1x512x1024.Idx) : out0_7 x0 x1 x2 x3 x4 y = vBlock (k0_pay48 x0 x1 x2 x3 x4) y := by
  unfold out0_7
  refine View.canon_apply_of_pieces (vBlock (k0_pay48 x0 x1 x2 x3 x4)) _ (View.PiecesOf.mem ?_) y (cover0_7 _ _ _ _ _ _ _ _ y)
  exact ⟨fun y => v_piece (k0_pay48 x0 x1 x2 x3 x4) 896 slices_S512x1024_o0_896_S512x128 inb_S1x512x1024_S1x512x128_0_0_896 y,
    fun y => v_piece (k0_pay48 x0 x1 x2 x3 x4) 768 slices_S512x1024_o0_768_S512x128 inb_S1x512x1024_S1x512x128_0_0_768 y,
    fun y => v_piece (k0_pay48 x0 x1 x2 x3 x4) 640 slices_S512x1024_o0_640_S512x128 inb_S1x512x1024_S1x512x128_0_0_640 y,
    fun y => v_piece (k0_pay48 x0 x1 x2 x3 x4) 512 slices_S512x1024_o0_512_S512x128 inb_S1x512x1024_S1x512x128_0_0_512 y,
    fun y => v_piece (k0_pay48 x0 x1 x2 x3 x4) 384 slices_S512x1024_o0_384_S512x128 inb_S1x512x1024_S1x512x128_0_0_384 y,
    fun y => v_piece (k0_pay48 x0 x1 x2 x3 x4) 256 slices_S512x1024_o0_256_S512x128 inb_S1x512x1024_S1x512x128_0_0_256 y,
    fun y => v_piece (k0_pay48 x0 x1 x2 x3 x4) 128 slices_S512x1024_o0_128_S512x128 inb_S1x512x1024_S1x512x128_0_0_128 y,
    fun y => v_piece (k0_pay48 x0 x1 x2 x3 x4) 0 slices_S512x1024_o0_0_S512x128 inb_S1x512x1024_S1x512x128_0_0_0 y, trivial⟩

/-- The projected row of a block row, from the blocks' entries. -/
def projRow (r : Fin 512) (p : Fin 3) (d : Fin 1024) : EReal :=
  proj (Ffn.modulated (fun d => x0 (ix3 0 r d)) (fun d => x1 (ix3 0 3 d)) (fun d => x1 (ix3 0 4 d))) (fun k n => x2 (ix2 k n)) p d

theorem input_apply (r : Fin 512) (d : Fin 1024) : k0_pay45 x0 x1 x2 x3 x4 (ix2 r d)
    = Ffn.modulated (fun d => x0 (ix3 0 r d)) (fun d => x1 (ix3 0 3 d)) (fun d => x1 (ix3 0 4 d)) d := by
  pointwise [k0_pay45, k0_pay4, Ffn.modulated, Ffn.rms]

theorem dot_apply (u : FVec Ideal S512x1024 .bf16) (w : Vec Ideal S1024x1024 .bf16) (r : Fin 512) (d : Fin 1024) :
    k0_pay34 u w (ix2 r d) = ∑ k, u (ix2 r k) * w (ix2 k d) := by
  pointwise [k0_pay34]

theorem pay46_apply (r : Fin 512) (d : Fin 1024) : k0_pay46 x0 x1 x2 x3 x4 (ix2 r d) = projRow x0 x1 x2 r 0 d := by
  change k0_pay34 (k0_pay45 x0 x1 x2 x3 x4) (View.ld x2 r0_4) (ix2 r d) = _
  rw [dot_apply]
  simp only [input_apply]
  pointwise [projRow, proj]

theorem pay47_apply (r : Fin 512) (d : Fin 1024) : k0_pay47 x0 x1 x2 x3 x4 (ix2 r d) = projRow x0 x1 x2 r 1 d := by
  change k0_pay34 (k0_pay45 x0 x1 x2 x3 x4) (View.ld x2 r0_13) (ix2 r d) = _
  rw [dot_apply]
  simp only [input_apply]
  pointwise [projRow, proj]

theorem pay48_apply (r : Fin 512) (d : Fin 1024) : k0_pay48 x0 x1 x2 x3 x4 (ix2 r d) = projRow x0 x1 x2 r 2 d := by
  change k0_pay34 (k0_pay45 x0 x1 x2 x3 x4) (View.ld x2 r0_14) (ix2 r d) = _
  rw [dot_apply]
  simp only [input_apply]
  pointwise [projRow, proj]

theorem pay43_apply (r : Fin 512) (l : Fin 128) : k0_pay43 x0 x1 x2 x3 x4 (ix2 r l) = x3 (ix2 r l) := by
  pointwise [k0_pay43, k0_pay2]

theorem pay44_apply (r : Fin 512) (l : Fin 128) : k0_pay44 x0 x1 x2 x3 x4 (ix2 r l) = x4 (ix2 r l) := by
  pointwise [k0_pay44, k0_pay3]

/-- The keys' block, in the blocks' entries. -/
theorem keys_apply (r : Fin 512) (d : Fin 1024) : out0_6 x0 x1 x2 x3 x4 (ix3 0 r d)
    = spin (projRow x0 x1 x2 r 1) (fun l => x3 (ix2 r l)) (fun l => x4 (ix2 r l)) d := by
  rw [out6_apply]
  change spin (fun d => k0_pay47 x0 x1 x2 x3 x4 (ix2 r d)) (fun l => k0_pay43 x0 x1 x2 x3 x4 (ix2 r l))
    (fun l => k0_pay44 x0 x1 x2 x3 x4 (ix2 r l)) d = _
  simp only [pay47_apply, pay43_apply, pay44_apply]

/-- The queries' block, in the blocks' entries. -/
theorem queries_apply (r : Fin 512) (d : Fin 1024) : out0_5 x0 x1 x2 x3 x4 (ix3 0 r d)
    = spin (projRow x0 x1 x2 r 0) (fun l => x3 (ix2 r l)) (fun l => x4 (ix2 r l)) d * Ideal.ofBits .f32 0x3E38AA3B#32 := by
  rw [out5_apply]
  change spin (fun d => k0_pay46 x0 x1 x2 x3 x4 (ix2 r d)) (fun l => k0_pay43 x0 x1 x2 x3 x4 (ix2 r l))
    (fun l => k0_pay44 x0 x1 x2 x3 x4 (ix2 r l)) d * _ = _
  simp only [pay46_apply, pay43_apply, pay44_apply]

/-- The values' block, in the blocks' entries. -/
theorem values_apply (r : Fin 512) (d : Fin 1024) : out0_7 x0 x1 x2 x3 x4 (ix3 0 r d) = projRow x0 x1 x2 r 2 d := by
  rw [out7_apply]
  exact pay48_apply x0 x1 x2 x3 x4 r d

end Out

end Cert.Da

end
-- ==== Proof.DaArr.lean ====
/- The projection kernel's three result arrays after the run: every row is the kernel's row of the arguments' entries. -/
module

public import proofs.«01_k».proof.Proof.DaBlock
public import proofs.«01_k».proof.Proof.Gen.Reference7Ideal.Read

@[expose] public section

set_option maxRecDepth 16384

noncomputable section

namespace Cert.Da

open Cert.Kernel7Ideal Cert.Kernel7Ideal.Gen Idealize.ShloMosaic Idealize.SL.Sem Idealize.ShloMosaic.TcCoe

/-- Where each window's block lies at a grid point. -/
theorem idx : ∀ t : Fin cfg0.N, win0_0.index t = ![(t : ℕ) / 8, (t : ℕ) % 8, 0] ∧ win0_1.index t = ![(t : ℕ) / 8, 0, 0]
    ∧ win0_2.index t = ![0, 0] ∧ win0_3.index t = ![(t : ℕ) % 8, 0] ∧ win0_4.index t = ![(t : ℕ) % 8, 0]
    ∧ win0_5.index t = ![(t : ℕ) / 8, (t : ℕ) % 8, 0] ∧ win0_6.index t = ![(t : ℕ) / 8, (t : ℕ) % 8, 0]
    ∧ win0_7.index t = ![(t : ℕ) / 8, (t : ℕ) % 8, 0] :=
  (by decide +kernel : ∀ t : Fin grid0.N, _)

theorem points : cfg0.N = 64 := by decide +kernel

variable (m : (ℓ : Loc nD τ sig) → Buf (Elt Ideal) ℓ) (c : Dev nD) (t : Fin cfg0.N)

/-- The batch entry of a grid point. -/
def bat : Fin 8 := ⟨t / 8, by have h : (t : ℕ) < 64 := lt_of_lt_of_eq t.isLt points; omega⟩

/-- The array's row of a grid point's block row. -/
def row (r : Fin 512) : Fin 4096 := ⟨t % 8 * 512 + r, by omega⟩

theorem blk0 (r : Fin 512) (d : Fin 1024) :
    iblk m c 0 t (ix3 0 r d) = m ((c : Thread nD τ).loc main_arg0) (ix3 (bat t) (row t r) d) := by
  obtain ⟨h0, h1, h2, h3, h4, h5, h6, h7⟩ := idx t
  blk_simp [iblk]
  rw [V_main_arg0]
  congr 1
  blk_ext [h0, bat, row]

theorem blk1 (r : Fin 9) (d : Fin 1024) :
    iblk m c 1 t (ix3 0 r d) = m ((c : Thread nD τ).loc main_arg1) (ix3 (bat t) r d) := by
  obtain ⟨h0, h1, h2, h3, h4, h5, h6, h7⟩ := idx t
  blk_simp [iblk]
  rw [V_main_arg1]
  congr 1
  blk_ext [h1, bat, row]

theorem blk2 (k : Fin 1024) (j : Fin 3072) : iblk m c 2 t (ix2 k j) = m ((c : Thread nD τ).loc main_arg2) (ix2 k j) := by
  obtain ⟨h0, h1, h2, h3, h4, h5, h6, h7⟩ := idx t
  blk_simp [iblk]
  entry_read
  pointwise
  congr 1
  blk_ext [h2]

/-- A table over one head written twice along the lanes. -/
def twice (y : FVec Ideal S4096x64 .f32) : FVec Ideal S4096x128 .f32 :=
  shapeCast S4096x128 (broadcastInDim S1x4096x2x64 ![0, 1, 2, 3] bcast_S1x4096x1x64_S1x4096x2x64_0_1_2_3
    (shapeCast S1x4096x1x64 y shapeCasts_S4096x64_S1x4096x1x64)) shapeCasts_S1x4096x2x64_S4096x128

/-- A table over one head from its two halves. -/
def halves (a b : FVec Ideal S4096x32 .f32) : FVec Ideal S4096x64 .f32 :=
  concatenate S4096x64 1 [⟨S4096x32, a⟩, ⟨S4096x32, b⟩] concatenates_S4096x32_S4096x32_S4096x64_d1

theorem twice_apply (y : FVec Ideal S4096x64 .f32) (i : Fin 4096) (l : Fin 128) :
    twice y (ix2 i l) = y (ix2 i ⟨l % 64, by omega⟩) := by
  pointwise [twice]

theorem halves_apply (a b : FVec Ideal S4096x32 .f32) (i : Fin 4096) (l : Fin 64) : halves a b (ix2 i l)
    = if h : (l : ℕ) < 32 then a (ix2 i ⟨l, h⟩) else b (ix2 i ⟨l - 32, by omega⟩) := by
  pointwise [halves]

/-- The kernel's tables are the reference's, laid out over a slab of lanes. -/
theorem cos_table : V m c main_v32
    = twice (halves (Cert.Reference7Ideal.Read.val_main_v48 (F := Ideal)) (Cert.Reference7Ideal.Read.val_main_v48 (F := Ideal))) := by
  funext i
  entry_read
  rfl

theorem sin_table : V m c main_v37
    = twice (halves (Host.negf (Cert.Reference7Ideal.Read.val_main_v49 (F := Ideal))) (Cert.Reference7Ideal.Read.val_main_v49 (F := Ideal))) := by
  funext i
  entry_read
  rfl

theorem cos_entry (i : Fin 4096) (l : Fin 128) : V m c main_v32 (ix2 i l)
    = cosRow (fun e => Cert.Reference7Ideal.Read.val_main_v48 (F := Ideal) (ix2 i e)) l := by
  rw [cos_table, twice_apply, halves_apply]
  unfold cosRow
  by_cases h : (l : ℕ) % 64 < 32
  · refine (dif_pos h).trans ?_
    exact congrArg (fun e => Cert.Reference7Ideal.Read.val_main_v48 (F := Ideal) (ix2 i e)) (Fin.ext (by change (l : ℕ) % 64 = l % 32; omega))
  · refine (dif_neg h).trans ?_
    exact congrArg (fun e => Cert.Reference7Ideal.Read.val_main_v48 (F := Ideal) (ix2 i e)) (Fin.ext (by change (l : ℕ) % 64 - 32 = l % 32; omega))

theorem sin_entry (i : Fin 4096) (l : Fin 128) : V m c main_v37 (ix2 i l)
    = sinRow (fun e => Cert.Reference7Ideal.Read.val_main_v49 (F := Ideal) (ix2 i e)) l := by
  rw [sin_table, twice_apply, halves_apply]
  unfold sinRow
  by_cases h : (l : ℕ) % 64 < 32
  · rw [if_pos h]
    refine (dif_pos h).trans ?_
    exact congrArg (fun e => -Cert.Reference7Ideal.Read.val_main_v49 (F := Ideal) (ix2 i e)) (Fin.ext (by change (l : ℕ) % 64 = l % 32; omega))
  · rw [if_neg h]
    refine (dif_neg h).trans ?_
    exact congrArg (fun e => Cert.Reference7Ideal.Read.val_main_v49 (F := Ideal) (ix2 i e)) (Fin.ext (by change (l : ℕ) % 64 - 32 = l % 32; omega))

theorem blk3 (r : Fin 512) (l : Fin 128) : iblk m c 3 t (ix2 r l)
    = cosRow (fun e => Cert.Reference7Ideal.Read.val_main_v48 (F := Ideal) (ix2 (row t r) e)) l := by
  obtain ⟨h0, h1, h2, h3, h4, h5, h6, h7⟩ := idx t
  rw [← cos_entry m c]
  blk_simp [iblk]
  congr 1
  blk_ext [h3, row]

theorem blk4 (r : Fin 512) (l : Fin 128) : iblk m c 4 t (ix2 r l)
    = sinRow (fun e => Cert.Reference7Ideal.Read.val_main_v49 (F := Ideal) (ix2 (row t r) e)) l := by
  obtain ⟨h0, h1, h2, h3, h4, h5, h6, h7⟩ := idx t
  rw [← sin_entry m c]
  blk_simp [iblk]
  congr 1
  blk_ext [h4, row]

theorem emb5 (r : Fin 512) (d : Fin 1024) :
    ((cfg0.win 5).blk t).view.emb (ix3 0 r d) = ix3 (bat t) (row t r) d := by
  obtain ⟨h0, h1, h2, h3, h4, h5, h6, h7⟩ := idx t
  blk_ext [h5, bat, row]

theorem emb6 (r : Fin 512) (d : Fin 1024) :
    ((cfg0.win 6).blk t).view.emb (ix3 0 r d) = ix3 (bat t) (row t r) d := by
  obtain ⟨h0, h1, h2, h3, h4, h5, h6, h7⟩ := idx t
  blk_ext [h6, bat, row]

theorem emb7 (r : Fin 512) (d : Fin 1024) :
    ((cfg0.win 7).blk t).view.emb (ix3 0 r d) = ix3 (bat t) (row t r) d := by
  obtain ⟨h0, h1, h2, h3, h4, h5, h6, h7⟩ := idx t
  blk_ext [h7, bat, row]

section Result
variable (h : Vec Ideal S8x4096x1024 .f32) (mods : Vec Ideal S8x9x1024 .f32) (w : Vec Ideal S1024x3072 .f32)

/-- A row of the arrays, modulated by the conditioning's rows 3 and 4 and projected. -/
def projected (p : Fin 3) (b : Fin 8) (i : Fin 4096) : Fin 1024 → EReal :=
  proj (Ffn.modulated (fun d => h (ix3 b i d)) (fun d => mods (ix3 b 3 d)) (fun d => mods (ix3 b 4 d))) (fun k n => w (ix2 k n)) p

/-- The projected row with its heads turned by the row's angles. -/
def turnedRow (p : Fin 3) (b : Fin 8) (i : Fin 4096) : Fin 1024 → EReal :=
  turn (projected h mods w p b i) (fun e => Cert.Reference7Ideal.Read.val_main_v48 (F := Ideal) (ix2 i e))
    (fun e => Cert.Reference7Ideal.Read.val_main_v49 (F := Ideal) (ix2 i e))

end Result

theorem projRow_blk (r : Fin 512) (p : Fin 3) : projRow (iblk m c 0 t) (iblk m c 1 t) (iblk m c 2 t) r p
    = projected (m ((c : Thread nD τ).loc main_arg0)) (m ((c : Thread nD τ).loc main_arg1)) (m ((c : Thread nD τ).loc main_arg2)) p (bat t) (row t r) := by
  funext d
  unfold projRow projected
  simp only [blk0, blk1, blk2]

/-- The kernel's first result, the queries, after the run. -/
theorem arr_q : (dats m 0 c).arrAt 5 cfg0.N = fun i =>
    turnedRow (m ((c : Thread nD τ).loc main_arg0)) (m ((c : Thread nD τ).loc main_arg1)) (m ((c : Thread nD τ).loc main_arg2)) 0
      (i 0) (i 1) (i 2) * Ideal.ofBits .f32 0x3E38AA3B#32 := by
  refine (dats m 0 c).arrAt_eq_of_covers 5 _ (by decide +kernel) fun t hf y => ?_
  blk_simp
  rw [after0_5]
  idx_vars y
  obtain rfl : y0 = 0 := Subsingleton.elim _ _
  rw [queries_apply, projRow_blk]
  simp only [blk3, blk4]
  have e := emb5 t y1 y2
  blk_simp at e
  simp only [e]
  exact congrArg (· * _) (spin_eq _ _ _ _)

/-- The kernel's second result, the keys, after the run. -/
theorem arr_k : (dats m 0 c).arrAt 6 cfg0.N = fun i =>
    turnedRow (m ((c : Thread nD τ).loc main_arg0)) (m ((c : Thread nD τ).loc main_arg1)) (m ((c : Thread nD τ).loc main_arg2)) 1
      (i 0) (i 1) (i 2) := by
  refine (dats m 0 c).arrAt_eq_of_covers 6 _ (by decide +kernel) fun t hf y => ?_
  blk_simp
  rw [after0_6]
  idx_vars y
  obtain rfl : y0 = 0 := Subsingleton.elim _ _
  rw [keys_apply, projRow_blk]
  simp only [blk3, blk4]
  have e := emb6 t y1 y2
  blk_simp at e
  simp only [e]
  exact spin_eq _ _ _ _

/-- The kernel's third result, the values, after the run. -/
theorem arr_v : (dats m 0 c).arrAt 7 cfg0.N = fun i =>
    projected (m ((c : Thread nD τ).loc main_arg0)) (m ((c : Thread nD τ).loc main_arg1)) (m ((c : Thread nD τ).loc main_arg2)) 2
      (i 0) (i 1) (i 2) := by
  refine (dats m 0 c).arrAt_eq_of_covers 7 _ (by decide +kernel) fun t hf y => ?_
  blk_simp
  rw [after0_7]
  idx_vars y
  obtain rfl : y0 = 0 := Subsingleton.elim _ _
  rw [values_apply, projRow_blk]
  have e := emb7 t y1 y2
  blk_simp at e
  simp only [e]
  rfl

end Cert.Da

end
-- ==== Proof.DaRef.lean ====
/- The reference of the differential attention's projection, read at an index: its three results are the kernel's. -/
module

public import proofs.«01_k».proof.Proof.DaArr

@[expose] public section

set_option maxRecDepth 16384

noncomputable section

namespace Cert.Da

open Cert.Reference7Ideal Cert.Reference7Ideal.Gen Cert.Reference7Ideal.Read Idealize.ShloMosaic

/-- The heads of a row array, the first and the second half of every head. -/
def firstHalf (y : FVec Ideal S8x4096x1024 .f32) : FVec Ideal S8x4096x16x32 .f32 :=
  extractStridedSlice S8x4096x16x32 ![0, 0, 0, 0] (shapeCast S8x4096x16x64 y shapeCasts_S8x4096x1024_S8x4096x16x64) slices_S8x4096x16x64_S8x4096x16x32_0_0_0_0

def secondHalf (y : FVec Ideal S8x4096x1024 .f32) : FVec Ideal S8x4096x16x32 .f32 :=
  extractStridedSlice S8x4096x16x32 ![0, 0, 0, 32] (shapeCast S8x4096x16x64 y shapeCasts_S8x4096x1024_S8x4096x16x64) slices_S8x4096x16x64_S8x4096x16x32_0_0_0_32

/-- A table of angles over every head of every batch entry. -/
def spread (c : FVec Ideal S4096x32 .f32) : FVec Ideal S8x4096x16x32 .f32 :=
  broadcastInDim S8x4096x16x32 ![0, 1, 2, 3] bcast_S1x4096x1x32_S8x4096x16x32_0_1_2_3
    (broadcastInDim S1x4096x1x32 ![1, 2, 3] bcast_S4096x1x32_S1x4096x1x32_1_2_3
      (broadcastInDim S4096x1x32 ![0, 2] bcast_S4096x32_S4096x1x32_0_2 c))

/-- The heads from their turned halves. -/
def joined (a b : FVec Ideal S8x4096x16x32 .f32) : FVec Ideal S8x4096x16x64 .f32 :=
  concatenate S8x4096x16x64 3 [⟨S8x4096x16x32, a⟩, ⟨S8x4096x16x32, b⟩] concatenates_S8x4096x16x32_S8x4096x16x32_S8x4096x16x64_d3

/-- The reference's turn of every head. -/
def turnHeads (y : FVec Ideal S8x4096x1024 .f32) (c s : FVec Ideal S4096x32 .f32) : FVec Ideal S8x4096x16x64 .f32 :=
  joined (subf (mulf (firstHalf y) (spread c)) (mulf (secondHalf y) (spread s)))
    (addf (mulf (secondHalf y) (spread c)) (mulf (firstHalf y) (spread s)))

section Heads
variable (y : FVec Ideal S8x4096x1024 .f32) (c s : FVec Ideal S4096x32 .f32) (b : Fin 8) (i : Fin 4096)

theorem firstHalf_apply (h : Fin 16) (e : Fin 32) : firstHalf y (ix4 b i h e) = y (ix3 b i ⟨h * 64 + e, by omega⟩) := by
  pointwise [firstHalf]

theorem secondHalf_apply (h : Fin 16) (e : Fin 32) : secondHalf y (ix4 b i h e) = y (ix3 b i ⟨h * 64 + (32 + e), by omega⟩) := by
  pointwise [secondHalf]

theorem spread_apply (h : Fin 16) (e : Fin 32) : spread c (ix4 b i h e) = c (ix2 i e) := by
  pointwise [spread]

theorem joined_apply (x z : FVec Ideal S8x4096x16x32 .f32) (h : Fin 16) (e : Fin 64) : joined x z (ix4 b i h e)
    = if q : (e : ℕ) < 32 then x (ix4 b i h ⟨e, q⟩) else z (ix4 b i h ⟨e - 32, by omega⟩) := by
  pointwise [joined]

/-- A lane's head, and its place in the head. -/
def headOf (d : Fin 1024) : Fin 16 := ⟨d / 64, by omega⟩

def spot (d : Fin 1024) : Fin 64 := ⟨d % 64, by omega⟩

/-- The reference's turn of the heads, at a lane of the row. -/
theorem turnHeads_apply (d : Fin 1024) : turnHeads y c s (ix4 b i (headOf d) (spot d))
    = turn (fun d => y (ix3 b i d)) (fun e => c (ix2 i e)) (fun e => s (ix2 i e)) d := by
  unfold turnHeads turn mate
  rw [joined_apply]
  by_cases h : (d : ℕ) % 64 < 32
  · refine (dif_pos h).trans ?_
    rw [if_pos h, dif_pos h]
    change firstHalf y _ * spread c _ - secondHalf y _ * spread s _ = _
    rw [firstHalf_apply, secondHalf_apply, spread_apply, spread_apply]
    have e1 : (⟨(headOf d : ℕ) * 64 + (spot d : ℕ), by have := d.isLt; simp only [headOf, spot]; omega⟩ : Fin 1024) = d :=
      Fin.ext (by change (d : ℕ) / 64 * 64 + d % 64 = d; omega)
    have e2 : (⟨(headOf d : ℕ) * 64 + (32 + (spot d : ℕ)), by have := d.isLt; simp only [headOf, spot]; omega⟩ : Fin 1024) = ⟨d + 32, by omega⟩ :=
      Fin.ext (by change (d : ℕ) / 64 * 64 + (32 + d % 64) = d + 32; omega)
    have e3 : (⟨(spot d : ℕ), h⟩ : Fin 32) = place d := Fin.ext (by change (d : ℕ) % 64 = d % 32; omega)
    simp only [e1, e2, e3]
  · refine (dif_neg h).trans ?_
    rw [if_neg h, dif_neg h]
    change secondHalf y _ * spread c _ + firstHalf y _ * spread s _ = _
    rw [firstHalf_apply, secondHalf_apply, spread_apply, spread_apply]
    have e1 : (⟨(headOf d : ℕ) * 64 + (32 + ((spot d : ℕ) - 32)), by have := d.isLt; simp only [headOf, spot]; omega⟩ : Fin 1024) = d :=
      Fin.ext (by change (d : ℕ) / 64 * 64 + (32 + (d % 64 - 32)) = d; omega)
    have e2 : (⟨(headOf d : ℕ) * 64 + ((spot d : ℕ) - 32), by have := d.isLt; simp only [headOf, spot]; omega⟩ : Fin 1024) = ⟨d - 32, by omega⟩ :=
      Fin.ext (by change (d : ℕ) / 64 * 64 + (d % 64 - 32) = d - 32; omega)
    have e3 : (⟨(spot d : ℕ) - 32, by have := d.isLt; simp only [spot]; omega⟩ : Fin 32) = place d := Fin.ext (by change (d : ℕ) % 64 - 32 = d % 32; omega)
    simp only [e1, e2, e3]

end Heads

section Reference
variable (x0 : Vec Ideal S8x4096x1024 .f32) (x1 : Vec Ideal S8x9x1024 .f32) (x2 : Vec Ideal S1024x3072 .f32) (b : Fin 8) (i : Fin 4096)

theorem modulated_apply (d : Fin 1024) : val_main_v17 (F := Ideal) x0 x1 (ix3 b i d)
    = Ffn.modulated (fun d => x0 (ix3 b i d)) (fun d => x1 (ix3 b 3 d)) (fun d => x1 (ix3 b 4 d)) d := by
  pointwise [val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, val_main_cst_2, Ffn.modulated, Ffn.rms]

theorem product_apply (n : Fin 3072) : val_main_v18 (F := Ideal) x0 x1 x2 (ix3 b i n)
    = ∑ k, Ffn.modulated (fun d => x0 (ix3 b i d)) (fun d => x1 (ix3 b 3 d)) (fun d => x1 (ix3 b 4 d)) k * x2 (ix2 k n) := by
  refine Eq.trans (b := ∑ k, val_main_v17 (F := Ideal) x0 x1 (ix3 b i k) * x2 (ix2 k n)) ?_ ?_
  · pointwise [val_main_v18]
  · simp only [modulated_apply]

theorem third0 (d : Fin 1024) : val_main_v19 (F := Ideal) x0 x1 x2 (ix3 b i d) = projected x0 x1 x2 0 b i d := by
  refine Eq.trans (b := val_main_v18 (F := Ideal) x0 x1 x2 (ix3 b i ⟨(0 : Fin 3) * 1024 + d, by omega⟩)) ?_ (product_apply x0 x1 x2 b i _)
  pointwise [val_main_v19]

theorem third1 (d : Fin 1024) : val_main_v20 (F := Ideal) x0 x1 x2 (ix3 b i d) = projected x0 x1 x2 1 b i d := by
  refine Eq.trans (b := val_main_v18 (F := Ideal) x0 x1 x2 (ix3 b i ⟨(1 : Fin 3) * 1024 + d, by omega⟩)) ?_ (product_apply x0 x1 x2 b i _)
  pointwise [val_main_v20]

theorem third2 (d : Fin 1024) : val_main_v21 (F := Ideal) x0 x1 x2 (ix3 b i d) = projected x0 x1 x2 2 b i d := by
  refine Eq.trans (b := val_main_v18 (F := Ideal) x0 x1 x2 (ix3 b i ⟨(2 : Fin 3) * 1024 + d, by omega⟩)) ?_ (product_apply x0 x1 x2 b i _)
  pointwise [val_main_v21]

theorem turned0 (d : Fin 1024) : val_main_v69 (F := Ideal) x0 x1 x2 (ix4 b i (headOf d) (spot d)) = turnedRow x0 x1 x2 0 b i d := by
  refine (turnHeads_apply (val_main_v19 (F := Ideal) x0 x1 x2) (val_main_v48 (F := Ideal)) (val_main_v49 (F := Ideal)) b i d).trans ?_
  simp only [third0]
  rfl

theorem turned1 (d : Fin 1024) : val_main_v91 (F := Ideal) x0 x1 x2 (ix4 b i (headOf d) (spot d)) = turnedRow x0 x1 x2 1 b i d := by
  refine (turnHeads_apply (val_main_v20 (F := Ideal) x0 x1 x2) (val_main_v48 (F := Ideal)) (val_main_v49 (F := Ideal)) b i d).trans ?_
  simp only [third1]
  rfl

theorem row_of_heads (y : FVec Ideal S8x4096x16x64 .f32) (d : Fin 1024) :
    shapeCast S8x4096x1024 y shapeCasts_S8x4096x16x64_S8x4096x1024 (ix3 b i d) = y (ix4 b i (headOf d) (spot d)) := by
  pointwise [headOf, spot]

theorem scale_apply (h : Fin 16) (e : Fin 64) : val_main_v71 (F := Ideal) x0 x1 x2 (ix4 b i h e)
    = val_main_v69 (F := Ideal) x0 x1 x2 (ix4 b i h e) * Ideal.ofBits .f32 0x3E38AA3B#32 := by
  rw [val_main_v71_apply, val_main_v70_apply]
  rfl

/-- The heads written back as a row and converted, at a lane. -/
theorem narrow_apply (y : FVec Ideal S8x4096x16x64 .f32) (d : Fin 1024) :
    (truncf .bf16 (shapeCast S8x4096x1024 y shapeCasts_S8x4096x16x64_S8x4096x1024 : FVec Ideal S8x4096x1024 .f32) bitsLt_bf16_f32 : FVec Ideal S8x4096x1024 .bf16)
      (ix3 b i d) = y (ix4 b i (headOf d) (spot d)) :=
  row_of_heads b i y d

/-- The reference's first result. -/
theorem ref_q : val_main_v93 (F := Ideal) x0 x1 x2
    = fun i => turnedRow x0 x1 x2 0 (i 0) (i 1) (i 2) * Ideal.ofBits .f32 0x3E38AA3B#32 := by
  funext i
  idx_vars i
  unfold val_main_v93 val_main_v92
  refine (narrow_apply i0 i1 (val_main_v71 (F := Ideal) x0 x1 x2) i2).trans ?_
  rw [scale_apply, turned0]

/-- The reference's second result. -/
theorem ref_k : val_main_v95 (F := Ideal) x0 x1 x2 = fun i => turnedRow x0 x1 x2 1 (i 0) (i 1) (i 2) := by
  funext i
  idx_vars i
  unfold val_main_v95 val_main_v94
  exact (narrow_apply i0 i1 (val_main_v91 (F := Ideal) x0 x1 x2) i2).trans (turned1 x0 x1 x2 i0 i1 i2)

/-- The reference's third result. -/
theorem ref_v : val_main_v96 (F := Ideal) x0 x1 x2 = fun i => projected x0 x1 x2 2 (i 0) (i 1) (i 2) := by
  funext i
  idx_vars i
  exact third2 x0 x1 x2 i0 i1 i2

end Reference

end Cert.Da

end
-- ==== Proof.GpRow.lean ====
/- One row of the grouped-query projection on extended reals: the projected row, the norm of a head of 128 lanes, and the
   turn that the rotary embedding gives it, in the reference's form and in the kernel's. Nothing here mentions a program. -/
module

public import proofs.«01_k».proof.Proof.FfnRow

@[expose] public section

noncomputable section

namespace Cert.Gp

open Idealize.ShloMosaic

/-- One number of the projected row: eight heads of queries, then two of keys and two of values. -/
def proj (x : Fin 1024 → EReal) (w : Fin 1024 → Fin 1536 → EReal) (n : Fin 1536) : EReal := ∑ k, x k * w k n

/-- A head divided by its root mean square and scaled by the gains. -/
def normed (z g : Fin 128 → EReal) (l : Fin 128) : EReal :=
  z l * Ideal.rsqrt (Ideal.div (∑ k, z k * z k) (Ideal.ofBits .f32 0x43000000#32) + Ideal.ofBits .f32 0x358637BD#32) * g l

/-- The lane that is turned together with a lane: the same place in the other half of the head. -/
def mate (l : Fin 128) : Fin 128 := ⟨(l + 64) % 128, by omega⟩

/-- A lane's place in its half of the head, which says the angle it is turned by. -/
def place (l : Fin 128) : Fin 64 := ⟨l % 64, by omega⟩

/-- The head turned: the first half takes the difference, the second half the sum. -/
def turn (y : Fin 128 → EReal) (c s : Fin 64 → EReal) (l : Fin 128) : EReal :=
  if (l : ℕ) < 64 then y l * c (place l) - y (mate l) * s (place l) else y l * c (place l) + y (mate l) * s (place l)

/-- The turned head from its two halves. -/
theorem turn_halves (y : Fin 128 → EReal) (c s : Fin 64 → EReal) (l : Fin 128) :
    (if q : (l : ℕ) < 64 then y ⟨l, by omega⟩ * c ⟨l, q⟩ - y ⟨64 + l, by omega⟩ * s ⟨l, q⟩
      else y ⟨64 + (l - 64 : ℕ), by omega⟩ * c ⟨l - 64, by omega⟩ + y ⟨l - 64, by omega⟩ * s ⟨l - 64, by omega⟩) = turn y c s l := by
  unfold turn
  by_cases q : (l : ℕ) < 64
  · have e1 : (⟨64 + l, by omega⟩ : Fin 128) = mate l := Fin.ext (by change (64 + l : ℕ) = (l + 64) % 128; omega)
    have e2 : (⟨l, q⟩ : Fin 64) = place l := Fin.ext (by change (l : ℕ) = l % 64; omega)
    rw [dif_pos q, if_pos q, e1, e2]
  · have e0 : (⟨64 + (l - 64 : ℕ), by omega⟩ : Fin 128) = l := Fin.ext (by change 64 + (l - 64 : ℕ) = l; omega)
    have e1 : (⟨l - 64, by omega⟩ : Fin 128) = mate l := Fin.ext (by change (l - 64 : ℕ) = (l + 64) % 128; omega)
    have e2 : (⟨l - 64, by omega⟩ : Fin 64) = place l := Fin.ext (by change (l - 64 : ℕ) = l % 64; omega)
    rw [dif_neg q, if_neg q, e0, e1, e2]

/-- The kernel's table of cosines over a head: the 64 angles twice over. -/
def cosRow (c : Fin 64 → EReal) (l : Fin 128) : EReal := c (place l)

/-- The kernel's table of sines over a head: negative over the first half. -/
def sinRow (s : Fin 64 → EReal) (l : Fin 128) : EReal := if (l : ℕ) < 64 then -s (place l) else s (place l)

/-- The kernel's turn: one formula for both halves, with the tables over a head. -/
def spin (y c s : Fin 128 → EReal) (l : Fin 128) : EReal := y l * c l + y (mate l) * s l

/-- The kernel's turn is the reference's. -/
theorem spin_eq (y : Fin 128 → EReal) (c s : Fin 64 → EReal) (l : Fin 128) : spin y (cosRow c) (sinRow s) l = turn y c s l := by
  unfold spin turn cosRow sinRow
  split
  · rw [mul_neg, sub_eq_add_neg]
  · rfl

section Heads
variable {W : ℕ}

/-- The lane of a slab's lane, and a lane's place in its head. -/
def lane (n : ℕ) (hn : n + 128 ≤ W) (l : Fin 128) : Fin W := ⟨n + l, by omega⟩

def spot (d : Fin W) : Fin 128 := ⟨d % 128, by omega⟩

variable (hW : W % 128 = 0)

/-- A lane of the head that a lane of a row of heads belongs to. -/
def inHead (d : Fin W) (l : Fin 128) : Fin W := ⟨d / 128 * 128 + l, by omega⟩

theorem inHead_lane (n : ℕ) (h128 : n % 128 = 0) (hn : n + 128 ≤ W) (l k : Fin 128) : inHead hW (lane n hn l) k = lane n hn k :=
  Fin.ext (by change (n + l : ℕ) / 128 * 128 + k = n + k; omega)

theorem spot_lane (n : ℕ) (h128 : n % 128 = 0) (hn : n + 128 ≤ W) (l : Fin 128) : spot (lane n hn l) = l :=
  Fin.ext (by change (n + l : ℕ) % 128 = l; omega)

theorem inHead_spot (d : Fin W) : inHead hW d (spot d) = d :=
  Fin.ext (by change (d : ℕ) / 128 * 128 + d % 128 = d; omega)

end Heads

end Cert.Gp

end
-- ==== Proof.GpBlock.lean ====
/- The grouped-query projection kernel's three blocks, read at an index: the queries and the keys are the projected row
   with its heads normed and turned, the values the projected row itself. -/
module

public import proofs.«01_k».proof.Proof.GpRow
public import proofs.«01_k».proof.Proof.Gen.Kernel8Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Gp

open Cert.Kernel8Ideal Cert.Kernel8Ideal.Gen Idealize.ShloMosaic Idealize.ShloMosaic.TcCoe

/-- A slab, one head, divided by its rows' root mean squares and scaled by the gains. -/
def scaled (g : FVec Ideal S1x128 .f32) (x : FVec Ideal S512x128 .f32) : FVec Ideal S512x128 .f32 :=
  mulf (mulf x (broadcastTo S512x128 (rsqrt (addf (divf (shapeCast S512x1
    (multiReduction .add [1] S512 (mulf x x) 0x00000000#32 reduces_S512x128_S512 (.inl rfl) rfl) shapeCasts_S512_S512x1)
      (broadcast S512x1 (FloatOps.ofBits .f32 0x43000000#32))) (broadcast S512x1 (FloatOps.ofBits .f32 0x358637BD#32))))
        broadcasts_S512x1_S512x128)) (broadcastTo S512x128 g broadcasts_S1x128_S512x128)

/-- A slab turned by the tables. -/
def turned (c s x : FVec Ideal S512x128 .f32) : FVec Ideal S512x128 .f32 :=
  addf (mulf x c) (mulf (dynamicRotate 1 64#32 none x rotates_S512x128_d1) s)

/-- What is stored for a slab of the values. -/
def vStore (x : FVec Ideal S512x128 .f32) : FVec Ideal S1x512x128 .bf16 :=
  shapeCast S1x512x128 (truncf .bf16 x bitsLt_bf16_f32) shapeCasts_S512x128_S1x512x128

/-- What is stored for a slab of the keys, and for a slab of the queries, which is scaled once more. -/
def kStore (g : FVec Ideal S1x128 .f32) (c s x : FVec Ideal S512x128 .f32) : FVec Ideal S1x512x128 .bf16 :=
  vStore (turned c s (scaled g x))

def qStore (g : FVec Ideal S1x128 .f32) (c s x : FVec Ideal S512x128 .f32) : FVec Ideal S1x512x128 .bf16 :=
  vStore (mulf (turned c s (scaled g x)) (broadcast S512x128 (FloatOps.ofBits .f32 0x3E0293EE#32)))

section Slab
variable (g : FVec Ideal S1x128 .f32) (c s z : FVec Ideal S512x128 .f32) (r : Fin 512) (l : Fin 128)

theorem scaled_apply : scaled g z (ix2 r l) = normed (fun l => z (ix2 r l)) (fun l => g (ix2 0 l)) l := by
  pointwise [scaled, normed]

theorem turned_apply : turned c s z (ix2 r l)
    = spin (fun l => z (ix2 r l)) (fun l => c (ix2 r l)) (fun l => s (ix2 r l)) l := by
  pointwise [turned, spin, mate]
  refine congrArg (fun n => z (ix2 r l) * c (ix2 r l) + z (ix2 r n) * s (ix2 r l)) (Fin.ext ?_)
  change ((l : ℕ) + 128 - 64) % 128 = (l + 64) % 128
  omega

theorem vStore_apply : vStore z (ix3 0 r l) = z (ix2 r l) := by
  pointwise [vStore]

theorem kStore_apply : kStore g c s z (ix3 0 r l)
    = spin (normed (fun l => z (ix2 r l)) (fun l => g (ix2 0 l))) (fun l => c (ix2 r l)) (fun l => s (ix2 r l)) l := by
  refine (vStore_apply _ r l).trans ((turned_apply c s _ r l).trans ?_)
  exact congrArg (fun y => spin y _ _ l) (funext fun l => scaled_apply g z r l)

theorem qStore_apply : qStore g c s z (ix3 0 r l) = kStore g c s z (ix3 0 r l) * Ideal.ofBits .f32 0x3E0293EE#32 :=
  (vStore_apply _ r l).trans (congrArg (· * Ideal.ofBits .f32 0x3E0293EE#32) (vStore_apply _ r l).symm)

end Slab

section Stores
variable {W : ℕ} (hW : W % 128 = 0) (x : FVec Ideal ⟨2, ![512, W]⟩ .f32) (g : FVec Ideal S1x128 .f32) (c s : FVec Ideal S512x128 .f32)

/-- A slab of 128 lanes of the projected block. -/
abbrev slab (n : ℕ) (h : Shape.Slices ⟨2, ![512, W]⟩ ![0, n] S512x128) : FVec Ideal S512x128 .f32 :=
  extractStridedSlice S512x128 ![0, n] x h

theorem slab_apply (n : ℕ) (hn : n + 128 ≤ W) (h : Shape.Slices ⟨2, ![512, W]⟩ ![0, n] S512x128) (r : Fin 512) (l : Fin 128) :
    slab x n h (ix2 r l) = x (ix2 r (lane n hn l)) := by
  refine congrArg x (funext fun a => Fin.ext ?_)
  match a with
  | 0 => exact Nat.zero_add _
  | 1 => rfl

/-- A row of the keys' block at a lane. -/
def headAt (r : Fin 512) (d : Fin W) : EReal :=
  spin (normed (fun l => x (ix2 r (inHead hW d l))) (fun l => g (ix2 0 l))) (fun l => c (ix2 r l)) (fun l => s (ix2 r l)) (spot d)

/-- The keys' block, the queries' and the values', as functions of their index. -/
def kBlock : Shape.Idx ⟨3, ![1, 512, W]⟩ → Elt Ideal .bf16 := fun z => headAt hW x g c s (z 1) (z 2)

def qBlock : Shape.Idx ⟨3, ![1, 512, W]⟩ → Elt Ideal .bf16 := fun z => headAt hW x g c s (z 1) (z 2) * Ideal.ofBits .f32 0x3E0293EE#32

def vBlock : Shape.Idx ⟨3, ![1, 512, W]⟩ → Elt Ideal .bf16 := fun z => x (ix2 (z 1) (z 2))

section Piece
variable (n : ℕ) (h128 : n % 128 = 0) (h : Shape.Slices ⟨2, ![512, W]⟩ ![0, n] S512x128)
  (inb : ∀ a, ![0, 0, n] a + S1x512x128.size a ≤ Shape.size ⟨3, ![1, 512, W]⟩ a) (y : S1x512x128.Idx)

/-- A slab's place in the stored block. -/
abbrev rect : Rect ⟨3, ![1, 512, W]⟩ := Rect.unit ![0, 0, n] S1x512x128.size inb

include inb in
theorem bound : n + 128 ≤ W := inb 2

theorem rect1 : (rect n inb).emb y 1 = y 1 :=
  Fin.ext ((ValueKit.rect_emb_unit_val (s := ⟨3, ![1, 512, W]⟩) ![0, 0, n] S1x512x128.size inb y 1).trans (Nat.zero_add _))

theorem rect2 : (rect n inb).emb y 2 = lane n (bound n inb) (y 2) :=
  Fin.ext (ValueKit.rect_emb_unit_val (s := ⟨3, ![1, 512, W]⟩) ![0, 0, n] S1x512x128.size inb y 2)

theorem index : y = ix3 0 (y 1) (y 2) := by
  funext a
  match a with
  | 0 => exact Subsingleton.elim (α := Fin 1) _ _
  | 1 => rfl
  | 2 => rfl

include h128 in
/-- What is stored for a slab of the keys, read at a row and a lane. -/
theorem k_at (hn : n + 128 ≤ W) (r : Fin 512) (l : Fin 128) : kStore g c s (slab x n h) (ix3 0 r l)
    = headAt hW x g c s r (lane n hn l) := by
  unfold headAt
  rw [kStore_apply, spot_lane n h128]
  simp only [inHead_lane hW n h128, slab_apply x n hn]

include h128 in
/-- A slab of the keys is the block's. -/
theorem k_piece : kStore g c s (slab x n h) y = kBlock hW x g c s ((rect n inb).emb y) :=
  (congrArg _ (index y)).trans ((k_at hW x g c s n h128 h (bound n inb) (y 1) (y 2)).trans
    (congrArg₂ (headAt hW x g c s) (rect1 n inb y) (rect2 n inb y)).symm)

include h128 in
/-- A slab of the queries is the block's. -/
theorem q_piece : qStore g c s (slab x n h) y = qBlock hW x g c s ((rect n inb).emb y) :=
  (congrArg _ (index y)).trans ((qStore_apply g c s _ (y 1) (y 2)).trans (congrArg (· * Ideal.ofBits .f32 0x3E0293EE#32)
    ((congrArg _ (index y)).symm.trans (k_piece hW x g c s n h128 h inb y))))

/-- A slab of the values is the block's. -/
theorem v_piece : vStore (slab x n h) y = vBlock x ((rect n inb).emb y) :=
  (congrArg _ (index y)).trans ((vStore_apply _ (y 1) (y 2)).trans ((slab_apply x n (bound n inb) h (y 1) (y 2)).trans
    (congrArg₂ (fun r d => x (ix2 r d)) (rect1 n inb y) (rect2 n inb y)).symm))

end Piece

end Stores

section Out
variable (x0 : Vec Ideal S1x512x1024 .f32) (x1 : Vec Ideal S1x9x1024 .f32) (x2 : Vec Ideal S1024x1536 .bf16) (x3 : Vec Ideal S2x128 .f32)
  (x4 x5 : Vec Ideal S512x128 .f32)

/-- The projected blocks of the keys and of the values. -/
abbrev keyBlock : FVec Ideal S512x256 .f32 := k0_pay24 (k0_pay35 x0 x1 x2 x3 x4 x5) (View.ld x2 r0_14)

abbrev valueBlock : FVec Ideal S512x256 .f32 := k0_pay30 (k0_pay35 x0 x1 x2 x3 x4 x5) (View.ld x2 r0_18)

/-- A slab of the queries, as the body stores it. -/
theorem q_slab (n : ℕ) (h128 : n % 128 = 0) (h : S512x1024.Slices ![0, n] S512x128)
    (inb : ∀ a, ![0, 0, n] a + S1x512x128.size a ≤ S1x512x1024.size a) (y : S1x512x128.Idx) :
    qStore (View.ld x3 r0_5) (k0_pay33 x0 x1 x2 x3 x4 x5) (k0_pay34 x0 x1 x2 x3 x4 x5) (slab (k0_pay36 x0 x1 x2 x3 x4 x5) n h) y
      = qBlock (W := 1024) rfl (k0_pay36 x0 x1 x2 x3 x4 x5) (View.ld x3 r0_5) (k0_pay33 x0 x1 x2 x3 x4 x5) (k0_pay34 x0 x1 x2 x3 x4 x5) ((rect n inb).emb y) :=
  q_piece rfl _ _ _ _ n h128 h inb y

/-- The block the body stores for the queries. -/
theorem out6_apply (y : S1x512x1024.Idx) : out0_6 x0 x1 x2 x3 x4 x5 y = qBlock (W := 1024) rfl (k0_pay36 x0 x1 x2 x3 x4 x5) (View.ld x3 r0_5)
    (k0_pay33 x0 x1 x2 x3 x4 x5) (k0_pay34 x0 x1 x2 x3 x4 x5) y := by
  unfold out0_6
  refine View.canon_apply_of_pieces (qBlock (W := 1024) rfl (k0_pay36 x0 x1 x2 x3 x4 x5) (View.ld x3 r0_5)
    (k0_pay33 x0 x1 x2 x3 x4 x5) (k0_pay34 x0 x1 x2 x3 x4 x5)) _ (View.PiecesOf.mem ?_) y (cover0_6 _ _ _ _ _ _ _ _ y)
  exact ⟨fun y => q_slab x0 x1 x2 x3 x4 x5 896 rfl slices_S512x1024_o0_896_S512x128 inb_S1x512x1024_S1x512x128_0_0_896 y,
    fun y => q_slab x0 x1 x2 x3 x4 x5 768 rfl slices_S512x1024_o0_768_S512x128 inb_S1x512x1024_S1x512x128_0_0_768 y,
    fun y => q_slab x0 x1 x2 x3 x4 x5 640 rfl slices_S512x1024_o0_640_S512x128 inb_S1x512x1024_S1x512x128_0_0_640 y,
    fun y => q_slab x0 x1 x2 x3 x4 x5 512 rfl slices_S512x1024_o0_512_S512x128 inb_S1x512x1024_S1x512x128_0_0_512 y,
    fun y => q_slab x0 x1 x2 x3 x4 x5 384 rfl slices_S512x1024_o0_384_S512x128 inb_S1x512x1024_S1x512x128_0_0_384 y,
    fun y => q_slab x0 x1 x2 x3 x4 x5 256 rfl slices_S512x1024_o0_256_S512x128 inb_S1x512x1024_S1x512x128_0_0_256 y,
    fun y => q_slab x0 x1 x2 x3 x4 x5 128 rfl slices_S512x1024_o0_128_S512x128 inb_S1x512x1024_S1x512x128_0_0_128 y,
    fun y => q_slab x0 x1 x2 x3 x4 x5 0 rfl slices_S512x1024_o0_0_S512x128 inb_S1x512x1024_S1x512x128_0_0_0 y, trivial⟩

/-- The block the body stores for the keys. -/
theorem out7_apply (y : S1x512x256.Idx) : out0_7 x0 x1 x2 x3 x4 x5 y = kBlock (W := 256) rfl (keyBlock x0 x1 x2 x3 x4 x5) (View.ld x3 r0_15)
    (k0_pay33 x0 x1 x2 x3 x4 x5) (k0_pay34 x0 x1 x2 x3 x4 x5) y := by
  unfold out0_7
  refine View.canon_apply_of_pieces (kBlock (W := 256) rfl (keyBlock x0 x1 x2 x3 x4 x5) (View.ld x3 r0_15)
    (k0_pay33 x0 x1 x2 x3 x4 x5) (k0_pay34 x0 x1 x2 x3 x4 x5)) _ (View.PiecesOf.mem ?_) y (cover0_7 _ _ y)
  exact ⟨fun y => k_piece (W := 256) rfl (keyBlock x0 x1 x2 x3 x4 x5) (View.ld x3 r0_15) (k0_pay33 x0 x1 x2 x3 x4 x5) (k0_pay34 x0 x1 x2 x3 x4 x5)
      128 rfl slices_S512x256_o0_128_S512x128 inb_S1x512x256_S1x512x128_0_0_128 y,
    fun y => k_piece (W := 256) rfl (keyBlock x0 x1 x2 x3 x4 x5) (View.ld x3 r0_15) (k0_pay33 x0 x1 x2 x3 x4 x5) (k0_pay34 x0 x1 x2 x3 x4 x5)
      0 rfl slices_S512x256_o0_0_S512x128 inb_S1x512x256_S1x512x128_0_0_0 y, trivial⟩

/-- The block the body stores for the values. -/
theorem out8_apply (y : S1x512x256.Idx) : out0_8 x0 x1 x2 x3 x4 x5 y = vBlock (W := 256) (valueBlock x0 x1 x2 x3 x4 x5) y := by
  unfold out0_8
  refine View.canon_apply_of_pieces (vBlock (W := 256) (valueBlock x0 x1 x2 x3 x4 x5)) _ (View.PiecesOf.mem ?_) y (cover0_8 _ _ y)
  exact ⟨fun y => v_piece (W := 256) (valueBlock x0 x1 x2 x3 x4 x5) 128 slices_S512x256_o0_128_S512x128 inb_S1x512x256_S1x512x128_0_0_128 y,
    fun y => v_piece (W := 256) (valueBlock x0 x1 x2 x3 x4 x5) 0 slices_S512x256_o0_0_S512x128 inb_S1x512x256_S1x512x128_0_0_0 y, trivial⟩

/-- The projected row of a block row, from the blocks' entries. -/
def projRow (r : Fin 512) : Fin 1536 → EReal :=
  proj (Ffn.modulated (fun d => x0 (ix3 0 r d)) (fun d => x1 (ix3 0 3 d)) (fun d => x1 (ix3 0 4 d))) (fun k n => x2 (ix2 k n))

theorem input_apply (r : Fin 512) (d : Fin 1024) : k0_pay35 x0 x1 x2 x3 x4 x5 (ix2 r d)
    = Ffn.modulated (fun d => x0 (ix3 0 r d)) (fun d => x1 (ix3 0 3 d)) (fun d => x1 (ix3 0 4 d)) d := by
  pointwise [k0_pay35, k0_pay4, Ffn.modulated, Ffn.rms]

/-- The product with the queries' columns of the weights. -/
def wideDot (u : FVec Ideal S512x1024 .bf16) (w : Vec Ideal S1024x1024 .bf16) : FVec Ideal S512x1024 .f32 :=
  matmul dot_S512x1024_S1024x1024_S512x1024_1_0_0_1_n_n none u (shapeCast S1024x1024 w shapeCasts_S1024x1024_S1024x1024 : FVec Ideal S1024x1024 .bf16)
    (constant S512x1024 .f32 0x00000000#32)

theorem wideDot_apply (u : FVec Ideal S512x1024 .bf16) (w : Vec Ideal S1024x1024 .bf16) (r : Fin 512) (d : Fin 1024) :
    wideDot u w (ix2 r d) = ∑ k, u (ix2 r k) * w (ix2 k d) := by
  pointwise [wideDot]

theorem dot_apply (u : FVec Ideal S512x1024 .bf16) (w : Vec Ideal S1024x256 .bf16) (r : Fin 512) (d : Fin 256) :
    k0_pay24 u w (ix2 r d) = ∑ k, u (ix2 r k) * w (ix2 k d) := by
  pointwise [k0_pay24]

/-- A lane of the row where the queries, the keys and the values lie in the projected row. -/
def qCol (d : Fin 1024) : Fin 1536 := ⟨d, by omega⟩

def kCol (d : Fin 256) : Fin 1536 := ⟨1024 + d, by omega⟩

def vCol (d : Fin 256) : Fin 1536 := ⟨1280 + d, by omega⟩

theorem q_entry (r : Fin 512) (d : Fin 1024) : k0_pay36 x0 x1 x2 x3 x4 x5 (ix2 r d) = projRow x0 x1 x2 r (qCol d) := by
  change wideDot (k0_pay35 x0 x1 x2 x3 x4 x5) (View.ld x2 r0_4) (ix2 r d) = _
  rw [wideDot_apply]
  simp only [input_apply]
  pointwise [projRow, proj, qCol]

theorem k_entry (r : Fin 512) (d : Fin 256) : keyBlock x0 x1 x2 x3 x4 x5 (ix2 r d) = projRow x0 x1 x2 r (kCol d) := by
  change k0_pay24 (k0_pay35 x0 x1 x2 x3 x4 x5) (View.ld x2 r0_14) (ix2 r d) = _
  rw [dot_apply]
  simp only [input_apply]
  pointwise [projRow, proj, kCol]

theorem v_entry (r : Fin 512) (d : Fin 256) : valueBlock x0 x1 x2 x3 x4 x5 (ix2 r d) = projRow x0 x1 x2 r (vCol d) := by
  change k0_pay24 (k0_pay35 x0 x1 x2 x3 x4 x5) (View.ld x2 r0_18) (ix2 r d) = _
  rw [dot_apply]
  simp only [input_apply]
  pointwise [projRow, proj, vCol]

theorem cos_apply (r : Fin 512) (l : Fin 128) : k0_pay33 x0 x1 x2 x3 x4 x5 (ix2 r l) = x4 (ix2 r l) := by
  pointwise [k0_pay33, k0_pay2]

theorem sin_apply (r : Fin 512) (l : Fin 128) : k0_pay34 x0 x1 x2 x3 x4 x5 (ix2 r l) = x5 (ix2 r l) := by
  pointwise [k0_pay34, k0_pay3]

theorem qGain_apply (l : Fin 128) : View.ld x3 r0_5 (ix2 0 l) = x3 (ix2 0 l) := by
  pointwise

theorem kGain_apply (l : Fin 128) : View.ld x3 r0_15 (ix2 0 l) = x3 (ix2 1 l) := by
  pointwise

/-- The keys' block, in the blocks' entries. -/
theorem keys_apply (r : Fin 512) (d : Fin 256) : out0_7 x0 x1 x2 x3 x4 x5 (ix3 0 r d)
    = spin (normed (fun l => projRow x0 x1 x2 r (kCol (inHead rfl d l))) (fun l => x3 (ix2 1 l))) (fun l => x4 (ix2 r l)) (fun l => x5 (ix2 r l)) (spot d) := by
  rw [out7_apply]
  change headAt (W := 256) rfl _ _ _ _ r d = _
  unfold headAt
  simp only [k_entry, cos_apply, sin_apply]
  exact congrArg (fun g => spin (normed _ g) _ _ _) (funext fun l => kGain_apply x3 l)

/-- The queries' block, in the blocks' entries. -/
theorem queries_apply (r : Fin 512) (d : Fin 1024) : out0_6 x0 x1 x2 x3 x4 x5 (ix3 0 r d)
    = spin (normed (fun l => projRow x0 x1 x2 r (qCol (inHead rfl d l))) (fun l => x3 (ix2 0 l))) (fun l => x4 (ix2 r l)) (fun l => x5 (ix2 r l)) (spot d)
      * Ideal.ofBits .f32 0x3E0293EE#32 := by
  rw [out6_apply]
  change headAt (W := 1024) rfl _ _ _ _ r d * _ = _
  unfold headAt
  simp only [q_entry, cos_apply, sin_apply]
  exact congrArg (fun g => spin (normed _ g) _ _ _ * _) (funext fun l => qGain_apply x3 l)

/-- The values' block, in the blocks' entries. -/
theorem values_apply (r : Fin 512) (d : Fin 256) : out0_8 x0 x1 x2 x3 x4 x5 (ix3 0 r d) = projRow x0 x1 x2 r (vCol d) := by
  rw [out8_apply]
  exact v_entry x0 x1 x2 x3 x4 x5 r d

end Out

end Cert.Gp

end
-- ==== Proof.GpArr.lean ====
/- The grouped-query projection kernel's three result arrays after the run: every row is the kernel's row of the arguments'
   entries. -/
module

public import proofs.«01_k».proof.Proof.GpBlock
public import proofs.«01_k».proof.Proof.Gen.Reference8Ideal.Read

@[expose] public section

set_option maxRecDepth 16384

noncomputable section

namespace Cert.Gp

open Cert.Kernel8Ideal Cert.Kernel8Ideal.Gen Idealize.ShloMosaic Idealize.SL.Sem Idealize.ShloMosaic.TcCoe

/-- Where each window's block lies at a grid point. -/
theorem idx : ∀ t : Fin cfg0.N, win0_0.index t = ![(t : ℕ) / 8, (t : ℕ) % 8, 0] ∧ win0_1.index t = ![(t : ℕ) / 8, 0, 0]
    ∧ win0_2.index t = ![0, 0] ∧ win0_3.index t = ![0, 0] ∧ win0_4.index t = ![(t : ℕ) % 8, 0] ∧ win0_5.index t = ![(t : ℕ) % 8, 0]
    ∧ win0_6.index t = ![(t : ℕ) / 8, (t : ℕ) % 8, 0] ∧ win0_7.index t = ![(t : ℕ) / 8, (t : ℕ) % 8, 0]
    ∧ win0_8.index t = ![(t : ℕ) / 8, (t : ℕ) % 8, 0] :=
  (by decide +kernel : ∀ t : Fin grid0.N, _)

theorem points : cfg0.N = 64 := by decide +kernel

variable (m : (ℓ : Loc nD τ sig) → Buf (Elt Ideal) ℓ) (c : Dev nD) (t : Fin cfg0.N)

/-- The batch entry of a grid point. -/
def bat : Fin 8 := ⟨t / 8, by have h : (t : ℕ) < 64 := lt_of_lt_of_eq t.isLt points; omega⟩

/-- The array's row of a grid point's block row. -/
def row (r : Fin 512) : Fin 4096 := ⟨t % 8 * 512 + r, by omega⟩

theorem blk0 (r : Fin 512) (d : Fin 1024) :
    iblk m c 0 t (ix3 0 r d) = m ((c : Thread nD τ).loc main_arg0) (ix3 (bat t) (row t r) d) := by
  obtain ⟨h0, h1, h2, h3, h4, h5, h6, h7, h8⟩ := idx t
  blk_simp [iblk]
  rw [V_main_arg0]
  congr 1
  blk_ext [h0, bat, row]

theorem blk1 (r : Fin 9) (d : Fin 1024) :
    iblk m c 1 t (ix3 0 r d) = m ((c : Thread nD τ).loc main_arg1) (ix3 (bat t) r d) := by
  obtain ⟨h0, h1, h2, h3, h4, h5, h6, h7, h8⟩ := idx t
  blk_simp [iblk]
  rw [V_main_arg1]
  congr 1
  blk_ext [h1, bat, row]

theorem blk2 (k : Fin 1024) (j : Fin 1536) : iblk m c 2 t (ix2 k j) = m ((c : Thread nD τ).loc main_arg2) (ix2 k j) := by
  obtain ⟨h0, h1, h2, h3, h4, h5, h6, h7, h8⟩ := idx t
  blk_simp [iblk]
  entry_read
  pointwise
  congr 1
  blk_ext [h2]

theorem blk3 (r : Fin 2) (l : Fin 128) : iblk m c 3 t (ix2 r l) = m ((c : Thread nD τ).loc main_arg3) (ix2 r l) := by
  obtain ⟨h0, h1, h2, h3, h4, h5, h6, h7, h8⟩ := idx t
  blk_simp [iblk]
  rw [V_main_arg3]
  congr 1
  blk_ext [h3]

/-- A table over a head from its two halves. -/
def halves (a b : FVec Ideal S4096x64 .f32) : FVec Ideal S4096x128 .f32 :=
  shapeCast S4096x128 (broadcastInDim S1x4096x1x128 ![0, 1, 2, 3] bcast_S1x4096x1x128_S1x4096x1x128_0_1_2_3
    (shapeCast S1x4096x1x128 (concatenate S4096x128 1 [⟨S4096x64, a⟩, ⟨S4096x64, b⟩] concatenates_S4096x64_S4096x64_S4096x128_d1)
      shapeCasts_S4096x128_S1x4096x1x128)) shapeCasts_S1x4096x1x128_S4096x128

theorem halves_apply (a b : FVec Ideal S4096x64 .f32) (i : Fin 4096) (l : Fin 128) : halves a b (ix2 i l)
    = if h : (l : ℕ) < 64 then a (ix2 i ⟨l, h⟩) else b (ix2 i ⟨l - 64, by omega⟩) := by
  pointwise [halves]

/-- The kernel's tables are the reference's, laid out over a head. -/
theorem cos_table : V m c main_v32
    = halves (Cert.Reference8Ideal.Read.val_main_v79 (F := Ideal)) (Cert.Reference8Ideal.Read.val_main_v79 (F := Ideal)) := by
  funext i
  entry_read
  rfl

theorem sin_table : V m c main_v37
    = halves (Host.negf (Cert.Reference8Ideal.Read.val_main_v80 (F := Ideal))) (Cert.Reference8Ideal.Read.val_main_v80 (F := Ideal)) := by
  funext i
  entry_read
  rfl

theorem cos_entry (i : Fin 4096) (l : Fin 128) : V m c main_v32 (ix2 i l)
    = cosRow (fun e => Cert.Reference8Ideal.Read.val_main_v79 (F := Ideal) (ix2 i e)) l := by
  rw [cos_table, halves_apply]
  unfold cosRow
  by_cases h : (l : ℕ) < 64
  · refine (dif_pos h).trans ?_
    exact congrArg (fun e => Cert.Reference8Ideal.Read.val_main_v79 (F := Ideal) (ix2 i e)) (Fin.ext (by change (l : ℕ) = l % 64; omega))
  · refine (dif_neg h).trans ?_
    exact congrArg (fun e => Cert.Reference8Ideal.Read.val_main_v79 (F := Ideal) (ix2 i e)) (Fin.ext (by change (l : ℕ) - 64 = l % 64; omega))

theorem sin_entry (i : Fin 4096) (l : Fin 128) : V m c main_v37 (ix2 i l)
    = sinRow (fun e => Cert.Reference8Ideal.Read.val_main_v80 (F := Ideal) (ix2 i e)) l := by
  rw [sin_table, halves_apply]
  unfold sinRow
  by_cases h : (l : ℕ) < 64
  · rw [if_pos h]
    refine (dif_pos h).trans ?_
    exact congrArg (fun e => -Cert.Reference8Ideal.Read.val_main_v80 (F := Ideal) (ix2 i e)) (Fin.ext (by change (l : ℕ) = l % 64; omega))
  · rw [if_neg h]
    refine (dif_neg h).trans ?_
    exact congrArg (fun e => Cert.Reference8Ideal.Read.val_main_v80 (F := Ideal) (ix2 i e)) (Fin.ext (by change (l : ℕ) - 64 = l % 64; omega))

theorem blk4 (r : Fin 512) (l : Fin 128) : iblk m c 4 t (ix2 r l)
    = cosRow (fun e => Cert.Reference8Ideal.Read.val_main_v79 (F := Ideal) (ix2 (row t r) e)) l := by
  obtain ⟨h0, h1, h2, h3, h4, h5, h6, h7, h8⟩ := idx t
  rw [← cos_entry m c]
  blk_simp [iblk]
  congr 1
  blk_ext [h4, row]

theorem blk5 (r : Fin 512) (l : Fin 128) : iblk m c 5 t (ix2 r l)
    = sinRow (fun e => Cert.Reference8Ideal.Read.val_main_v80 (F := Ideal) (ix2 (row t r) e)) l := by
  obtain ⟨h0, h1, h2, h3, h4, h5, h6, h7, h8⟩ := idx t
  rw [← sin_entry m c]
  blk_simp [iblk]
  congr 1
  blk_ext [h5, row]

theorem emb6 (r : Fin 512) (d : Fin 1024) :
    ((cfg0.win 6).blk t).view.emb (ix3 0 r d) = ix3 (bat t) (row t r) d := by
  obtain ⟨h0, h1, h2, h3, h4, h5, h6, h7, h8⟩ := idx t
  blk_ext [h6, bat, row]

theorem emb7 (r : Fin 512) (d : Fin 256) :
    ((cfg0.win 7).blk t).view.emb (ix3 0 r d) = ix3 (bat t) (row t r) d := by
  obtain ⟨h0, h1, h2, h3, h4, h5, h6, h7, h8⟩ := idx t
  blk_ext [h7, bat, row]

theorem emb8 (r : Fin 512) (d : Fin 256) :
    ((cfg0.win 8).blk t).view.emb (ix3 0 r d) = ix3 (bat t) (row t r) d := by
  obtain ⟨h0, h1, h2, h3, h4, h5, h6, h7, h8⟩ := idx t
  blk_ext [h8, bat, row]

section Result
variable (h : Vec Ideal S8x4096x1024 .f32) (mods : Vec Ideal S8x9x1024 .f32) (w : Vec Ideal S1024x1536 .f32) (g : Vec Ideal S2x128 .f32)

/-- A row of the arrays, modulated by the conditioning's rows 3 and 4 and projected. -/
def projected (b : Fin 8) (i : Fin 4096) : Fin 1536 → EReal :=
  proj (Ffn.modulated (fun d => h (ix3 b i d)) (fun d => mods (ix3 b 3 d)) (fun d => mods (ix3 b 4 d))) (fun k n => w (ix2 k n))

/-- A head of 128 numbers, normed with a row of the gains and turned by the row's angles. -/
def turnedHead (p : Fin 2) (i : Fin 4096) (y : Fin 128 → EReal) : Fin 128 → EReal :=
  turn (normed y (fun l => g (ix2 p l))) (fun e => Cert.Reference8Ideal.Read.val_main_v79 (F := Ideal) (ix2 i e))
    (fun e => Cert.Reference8Ideal.Read.val_main_v80 (F := Ideal) (ix2 i e))

/-- The queries and the keys at a lane of their rows. -/
def queryAt (b : Fin 8) (i : Fin 4096) (d : Fin 1024) : EReal :=
  turnedHead g 0 i (fun l => projected h mods w b i (qCol (inHead rfl d l))) (spot d)

def keyAt (b : Fin 8) (i : Fin 4096) (d : Fin 256) : EReal :=
  turnedHead g 1 i (fun l => projected h mods w b i (kCol (inHead rfl d l))) (spot d)

end Result

theorem projRow_blk (r : Fin 512) : projRow (iblk m c 0 t) (iblk m c 1 t) (iblk m c 2 t) r
    = projected (m ((c : Thread nD τ).loc main_arg0)) (m ((c : Thread nD τ).loc main_arg1)) (m ((c : Thread nD τ).loc main_arg2)) (bat t) (row t r) := by
  funext d
  unfold projRow projected
  simp only [blk0, blk1, blk2]

/-- The kernel's first result, the queries, after the run. -/
theorem arr_q : (dats m 0 c).arrAt 6 cfg0.N = fun i =>
    queryAt (m ((c : Thread nD τ).loc main_arg0)) (m ((c : Thread nD τ).loc main_arg1)) (m ((c : Thread nD τ).loc main_arg2))
      (m ((c : Thread nD τ).loc main_arg3)) (i 0) (i 1) (i 2) * Ideal.ofBits .f32 0x3E0293EE#32 := by
  refine (dats m 0 c).arrAt_eq_of_covers 6 _ (by decide +kernel) fun t hf y => ?_
  blk_simp
  rw [after0_6]
  idx_vars y
  obtain rfl : y0 = 0 := Subsingleton.elim _ _
  rw [queries_apply, projRow_blk]
  simp only [blk3, blk4, blk5]
  have e := emb6 t y1 y2
  blk_simp at e
  simp only [e]
  exact congrArg (· * _) (spin_eq _ _ _ _)

/-- The kernel's second result, the keys, after the run. -/
theorem arr_k : (dats m 0 c).arrAt 7 cfg0.N = fun i =>
    keyAt (m ((c : Thread nD τ).loc main_arg0)) (m ((c : Thread nD τ).loc main_arg1)) (m ((c : Thread nD τ).loc main_arg2))
      (m ((c : Thread nD τ).loc main_arg3)) (i 0) (i 1) (i 2) := by
  refine (dats m 0 c).arrAt_eq_of_covers 7 _ (by decide +kernel) fun t hf y => ?_
  blk_simp
  rw [after0_7]
  idx_vars y
  obtain rfl : y0 = 0 := Subsingleton.elim _ _
  rw [keys_apply, projRow_blk]
  simp only [blk3, blk4, blk5]
  have e := emb7 t y1 y2
  blk_simp at e
  simp only [e]
  exact spin_eq _ _ _ _

/-- The kernel's third result, the values, after the run. -/
theorem arr_v : (dats m 0 c).arrAt 8 cfg0.N = fun i =>
    projected (m ((c : Thread nD τ).loc main_arg0)) (m ((c : Thread nD τ).loc main_arg1)) (m ((c : Thread nD τ).loc main_arg2))
      (i 0) (i 1) (vCol (i 2)) := by
  refine (dats m 0 c).arrAt_eq_of_covers 8 _ (by decide +kernel) fun t hf y => ?_
  blk_simp
  rw [after0_8]
  idx_vars y
  obtain rfl : y0 = 0 := Subsingleton.elim _ _
  rw [values_apply, projRow_blk]
  have e := emb8 t y1 y2
  blk_simp at e
  simp only [e]
  rfl

end Cert.Gp

end
-- ==== Proof.GpRef.lean ====
/- The reference of the grouped-query projection, read at an index: its three results are the kernel's. -/
module

public import proofs.«01_k».proof.Proof.GpArr

@[expose] public section

set_option maxRecDepth 16384

noncomputable section

namespace Cert.Gp

open Cert.Reference8Ideal Cert.Reference8Ideal.Gen Cert.Reference8Ideal.Read Idealize.ShloMosaic

variable (x0 : Vec Ideal S8x4096x1024 .f32) (x1 : Vec Ideal S8x9x1024 .f32) (x2 : Vec Ideal S1024x1536 .f32) (x3 : Vec Ideal S2x128 .f32)
  (b : Fin 8) (i : Fin 4096)

theorem modulated_apply (d : Fin 1024) : val_main_v17 (F := Ideal) x0 x1 (ix3 b i d)
    = Ffn.modulated (fun d => x0 (ix3 b i d)) (fun d => x1 (ix3 b 3 d)) (fun d => x1 (ix3 b 4 d)) d := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst, val_main_cst_0, val_main_cst_1,
    val_main_cst_2, Ffn.modulated, Ffn.rms]

theorem product_apply (n : Fin 1536) : val_main_v18 (F := Ideal) x0 x1 x2 (ix3 b i n) = projected x0 x1 x2 b i n := by
  refine Eq.trans (b := ∑ k, val_main_v17 (F := Ideal) x0 x1 (ix3 b i k) * x2 (ix2 k n)) ?_ ?_
  · pointwise [val_main_v18]
  · simp only [modulated_apply]
    rfl

/-- The head of a lane of the queries, and of a lane of the keys. -/
def qHead (d : Fin 1024) : Fin 8 := ⟨d / 128, by omega⟩

def kHead (d : Fin 256) : Fin 2 := ⟨d / 128, by omega⟩

/-- The heads of the projected rows. -/
theorem q_head (d : Fin 1024) (l : Fin 128) : val_main_v20 (F := Ideal) x0 x1 x2 (ix4 b i (qHead d) l)
    = projected x0 x1 x2 b i (qCol (inHead rfl d l)) := by
  refine Eq.trans (b := val_main_v18 (F := Ideal) x0 x1 x2 (ix3 b i (qCol (inHead rfl d l)))) ?_ (product_apply x0 x1 x2 b i _)
  pointwise [val_main_v20, val_main_v19, qHead, qCol, inHead]

theorem k_head (d : Fin 256) (l : Fin 128) : val_main_v37 (F := Ideal) x0 x1 x2 (ix4 b i (kHead d) l)
    = projected x0 x1 x2 b i (kCol (inHead rfl d l)) := by
  refine Eq.trans (b := val_main_v18 (F := Ideal) x0 x1 x2 (ix3 b i (kCol (inHead rfl d l)))) ?_ (product_apply x0 x1 x2 b i _)
  pointwise [val_main_v37, val_main_v36, kHead, kCol, inHead]

/-- The values at a lane. -/
theorem v_lane (d : Fin 256) : val_main_v121 (F := Ideal) x0 x1 x2 (ix3 b i d) = projected x0 x1 x2 b i (vCol d) := by
  refine Eq.trans (b := val_main_v18 (F := Ideal) x0 x1 x2 (ix3 b i (vCol d))) ?_ (product_apply x0 x1 x2 b i _)
  pointwise [val_main_v121, vCol]

/-- The normed heads. -/
theorem q_normed (h : Fin 8) (l : Fin 128) : val_main_v35 (F := Ideal) x0 x1 x2 x3 (ix4 b i h l)
    = normed (fun l => val_main_v20 (F := Ideal) x0 x1 x2 (ix4 b i h l)) (fun l => x3 (ix2 0 l)) l := by
  pointwise [val_main_v21, val_main_v22, val_main_v23, val_main_v24, val_main_v25, val_main_v26, val_main_v27, val_main_v28, val_main_v29, val_main_v30, val_main_v31, val_main_v32, val_main_v33, val_main_v34, val_main_v35, val_main_cst_3, val_main_cst_4, val_main_cst_5, normed]

theorem k_normed (h : Fin 2) (l : Fin 128) : val_main_v52 (F := Ideal) x0 x1 x2 x3 (ix4 b i h l)
    = normed (fun l => val_main_v37 (F := Ideal) x0 x1 x2 (ix4 b i h l)) (fun l => x3 (ix2 1 l)) l := by
  pointwise [val_main_v38, val_main_v39, val_main_v40, val_main_v41, val_main_v42, val_main_v43, val_main_v44, val_main_v45, val_main_v46, val_main_v47, val_main_v48, val_main_v49, val_main_v50, val_main_v51, val_main_v52, val_main_cst_6, val_main_cst_7, val_main_cst_8, normed]

/-- The turned heads. -/
theorem q_turned (h : Fin 8) (l : Fin 128) : val_main_v99 (F := Ideal) x0 x1 x2 x3 (ix4 b i h l)
    = turn (fun l => val_main_v35 (F := Ideal) x0 x1 x2 x3 (ix4 b i h l)) (fun e => val_main_v79 (F := Ideal) (ix2 i e))
      (fun e => val_main_v80 (F := Ideal) (ix2 i e)) l := by
  rw [← turn_halves]
  pointwise [val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99]

theorem k_turned (h : Fin 2) (l : Fin 128) : val_main_v120 (F := Ideal) x0 x1 x2 x3 (ix4 b i h l)
    = turn (fun l => val_main_v52 (F := Ideal) x0 x1 x2 x3 (ix4 b i h l)) (fun e => val_main_v79 (F := Ideal) (ix2 i e))
      (fun e => val_main_v80 (F := Ideal) (ix2 i e)) l := by
  rw [← turn_halves]
  pointwise [val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120]

/-- The queries and the keys at a lane of their rows. -/
theorem q_lane (d : Fin 1024) : val_main_v99 (F := Ideal) x0 x1 x2 x3 (ix4 b i (qHead d) (spot d)) = queryAt x0 x1 x2 x3 b i d := by
  rw [q_turned]
  simp only [q_normed, q_head]
  rfl

theorem k_lane (d : Fin 256) : val_main_v120 (F := Ideal) x0 x1 x2 x3 (ix4 b i (kHead d) (spot d)) = keyAt x0 x1 x2 x3 b i d := by
  rw [k_turned]
  simp only [k_normed, k_head]
  rfl

/-- The queries scaled. -/
theorem scale_apply (h : Fin 8) (l : Fin 128) : val_main_v101 (F := Ideal) x0 x1 x2 x3 (ix4 b i h l)
    = val_main_v99 (F := Ideal) x0 x1 x2 x3 (ix4 b i h l) * Ideal.ofBits .f32 0x3E0293EE#32 := by
  rw [val_main_v101_apply, val_main_v100_apply]
  rfl

/-- The heads written back as a row and converted, at a lane. -/
theorem q_narrow (y : FVec Ideal S8x4096x8x128 .f32) (d : Fin 1024) :
    (truncf .bf16 (shapeCast S8x4096x1024 y shapeCasts_S8x4096x8x128_S8x4096x1024 : FVec Ideal S8x4096x1024 .f32) bitsLt_bf16_f32 : FVec Ideal S8x4096x1024 .bf16)
      (ix3 b i d) = y (ix4 b i (qHead d) (spot d)) := by
  pointwise [qHead, spot]

theorem k_narrow (y : FVec Ideal S8x4096x2x128 .f32) (d : Fin 256) :
    (truncf .bf16 (shapeCast S8x4096x256 y shapeCasts_S8x4096x2x128_S8x4096x256 : FVec Ideal S8x4096x256 .f32) bitsLt_bf16_f32 : FVec Ideal S8x4096x256 .bf16)
      (ix3 b i d) = y (ix4 b i (kHead d) (spot d)) := by
  pointwise [kHead, spot]

/-- The reference's first result. -/
theorem ref_q : val_main_v123 (F := Ideal) x0 x1 x2 x3
    = fun i => queryAt x0 x1 x2 x3 (i 0) (i 1) (i 2) * Ideal.ofBits .f32 0x3E0293EE#32 := by
  funext i
  idx_vars i
  unfold val_main_v123 val_main_v122
  refine (q_narrow i0 i1 (val_main_v101 (F := Ideal) x0 x1 x2 x3) i2).trans ?_
  rw [scale_apply, q_lane]

/-- The reference's second result. -/
theorem ref_k : val_main_v125 (F := Ideal) x0 x1 x2 x3 = fun i => keyAt x0 x1 x2 x3 (i 0) (i 1) (i 2) := by
  funext i
  idx_vars i
  unfold val_main_v125 val_main_v124
  exact (k_narrow i0 i1 (val_main_v120 (F := Ideal) x0 x1 x2 x3) i2).trans (k_lane x0 x1 x2 x3 i0 i1 i2)

/-- The reference's third result. -/
theorem ref_v : val_main_v126 (F := Ideal) x0 x1 x2 = fun i => projected x0 x1 x2 (i 0) (i 1) (vCol (i 2)) := by
  funext i
  idx_vars i
  exact v_lane x0 x1 x2 i0 i1 i2

end Cert.Gp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.FfnRef
public import proofs.«01_k».proof.Proof.FfnInner
public import proofs.«01_k».proof.Proof.FfnPlainRef
public import proofs.«01_k».proof.Proof.AttnClaim
public import proofs.«01_k».proof.Proof.GqClaim
public import proofs.«01_k».proof.Proof.DaRef
public import proofs.«01_k».proof.Proof.GpRef
public import proofs.«01_k».proof.Proof.Gen.Pre_finite
public import proofs.«01_k».proof.Proof.Gen.Pre_finite6
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The final feed-forward kernel and its reference end with the same result array. -/
theorem ffn_final : Cert.algebraic_Kernel2Ideal_Reference2Ideal (hKernel2Ideal := Cert.Kernel2Ideal.Gen.facts)
    (hReference2Ideal := Cert.Reference2Ideal.Gen.facts) := by
  intro m g m' g' _ hag
  refine ⟨fun c => _, Cert.Kernel2Ideal.Value.run_blocks m g, ?_⟩
  refine (θ_run _ _ _).mono (fun r h c => ?_) (Cert.Reference2Ideal.Value.run m' g')
  obtain ⟨h0, h1⟩ := h c
  refine ⟨?_, h1⟩
  obtain ⟨a0, a1, a2, a3, a4, a5, a6, a7⟩ := hag c
  rw [h0, Cert.Reference2Ideal.Read.val_main_v52_eq, Cert.Ffn.ref_eq, a0, a1, a2, a3, a4, a5, a6, a7]
  exact (Cert.Ffn.arr m c).symm

/-- The opening feed-forward kernel and its reference end with the same result array. -/
theorem ffn_open : Cert.algebraic_Kernel3Ideal_Reference3Ideal (hKernel3Ideal := Cert.Kernel3Ideal.Gen.facts)
    (hReference3Ideal := Cert.Reference3Ideal.Gen.facts) := by
  intro m g m' g' _ hag
  refine ⟨fun c => _, Cert.Kernel3Ideal.Value.run_blocks m g, ?_⟩
  refine (θ_run _ _ _).mono (fun r h c => ?_) (Cert.Reference3Ideal.Value.run m' g')
  obtain ⟨h0, h1⟩ := h c
  refine ⟨?_, h1⟩
  obtain ⟨a0, a1, a2, a3, a4⟩ := hag c
  rw [h0, Cert.Reference3Ideal.Read.val_main_v34_eq, Cert.Ffn.Plain.ref_open, a0, a1, a2, a3, a4]
  exact (Cert.Ffn.Plain.arr_open m c).symm

/-- The inner attention layers' second feed-forward kernel and its reference end with the same result array. -/
theorem ffn_inner : Cert.algebraic_Kernel4Ideal_Reference4Ideal (hKernel4Ideal := Cert.Kernel4Ideal.Gen.facts)
    (hReference4Ideal := Cert.Reference4Ideal.Gen.facts) := by
  intro m g m' g' _ hag
  refine ⟨fun c => _, Cert.Kernel4Ideal.Value.run_blocks m g, ?_⟩
  refine (θ_run _ _ _).mono (fun r h c => ?_) (Cert.Reference4Ideal.Value.run m' g')
  obtain ⟨h0, h1⟩ := h c
  refine ⟨?_, h1⟩
  obtain ⟨a0, a1, a2, a3, a4, a5, a6⟩ := hag c
  rw [h0, Cert.Reference4Ideal.Read.val_main_v39_eq, Cert.Ffn.Inner.ref_eq, a0, a1, a2, a3, a4, a5, a6]
  exact (Cert.Ffn.Inner.arr m c).symm

/-- The recurrent layer's second feed-forward kernel and its reference end with the same result array. -/
theorem ffn_close : Cert.algebraic_Kernel5Ideal_Reference5Ideal (hKernel5Ideal := Cert.Kernel5Ideal.Gen.facts)
    (hReference5Ideal := Cert.Reference5Ideal.Gen.facts) := by
  intro m g m' g' _ hag
  refine ⟨fun c => _, Cert.Kernel5Ideal.Value.run_blocks m g, ?_⟩
  refine (θ_run _ _ _).mono (fun r h c => ?_) (Cert.Reference5Ideal.Value.run m' g')
  obtain ⟨h0, h1⟩ := h c
  refine ⟨?_, h1⟩
  obtain ⟨a0, a1, a2, a3, a4⟩ := hag c
  rw [h0, Cert.Reference5Ideal.Read.val_main_v34_eq, Cert.Ffn.Plain.ref_close, a0, a1, a2, a3, a4]
  exact (Cert.Ffn.Plain.arr_close m c).symm

/-- The differential attention's projection kernel and its reference end with the same three result arrays. -/
theorem da_projection : Cert.algebraic_Kernel7Ideal_Reference7Ideal (hKernel7Ideal := Cert.Kernel7Ideal.Gen.facts)
    (hReference7Ideal := Cert.Reference7Ideal.Gen.facts) := by
  intro m g m' g' _ hag
  refine ⟨fun c => _, fun c => _, fun c => _, Cert.Kernel7Ideal.Value.run_blocks m g, ?_⟩
  refine (θ_run _ _ _).mono (fun r h c => ?_) (Cert.Reference7Ideal.Value.run m' g')
  obtain ⟨h0, h1, h2, h3⟩ := h c
  obtain ⟨a0, a1, a2⟩ := hag c
  refine ⟨?_, ?_, ?_, h3⟩
  · rw [h0, Cert.Reference7Ideal.Read.val_main_v93_eq, Cert.Da.ref_q, a0, a1, a2]
    exact (Cert.Da.arr_q m c).symm
  · rw [h1, Cert.Reference7Ideal.Read.val_main_v95_eq, Cert.Da.ref_k, a0, a1, a2]
    exact (Cert.Da.arr_k m c).symm
  · rw [h2, Cert.Reference7Ideal.Read.val_main_v96_eq, Cert.Da.ref_v, a0, a1, a2]
    exact (Cert.Da.arr_v m c).symm

/-- The projection in front of the grouped-query attention computes its reference's three results. -/
theorem gq_projection : Cert.algebraic_Kernel8Ideal_Reference8Ideal (hKernel8Ideal := Cert.Kernel8Ideal.Gen.facts)
    (hReference8Ideal := Cert.Reference8Ideal.Gen.facts) := by
  intro m g m' g' _ hag
  refine ⟨fun c => _, fun c => _, fun c => _, Cert.Kernel8Ideal.Value.run_blocks m g, ?_⟩
  refine (θ_run _ _ _).mono (fun r h c => ?_) (Cert.Reference8Ideal.Value.run m' g')
  obtain ⟨h0, h1, h2, h3⟩ := h c
  obtain ⟨a0, a1, a2, a3⟩ := hag c
  refine ⟨?_, ?_, ?_, h3⟩
  · rw [h0, Cert.Reference8Ideal.Read.val_main_v123_eq, Cert.Gp.ref_q, a0, a1, a2, a3]
    exact (Cert.Gp.arr_q m c).symm
  · rw [h1, Cert.Reference8Ideal.Read.val_main_v125_eq, Cert.Gp.ref_k, a0, a1, a2, a3]
    exact (Cert.Gp.arr_k m c).symm
  · rw [h2, Cert.Reference8Ideal.Read.val_main_v126_eq, Cert.Gp.ref_v, a0, a1, a2]
    exact (Cert.Gp.arr_v m c).symm

/-- The attention's reference runs, leaves its arguments as they are and every counter at zero. -/
theorem frame_reference : Cert.quiescent_ReferenceIdeal (hReferenceIdeal := Cert.ReferenceIdeal.Gen.facts) := fun m ρ _ =>
  θ_run_mono (Cert.ReferenceIdeal.Value.run m ρ) fun r h => ⟨fun c => (h c).2, sem_eq_zero_of_no_sems (by decide) r.2⟩

/-- The grouped-query attention's reference runs, leaves its arguments as they are and every counter at zero. -/
theorem frame_reference6 : Cert.quiescent_Reference6Ideal (hReference6Ideal := Cert.Reference6Ideal.Gen.facts) := fun m ρ _ =>
  θ_run_mono (Cert.Reference6Ideal.Value.run m ρ) fun r h => ⟨fun c => (h c).2, sem_eq_zero_of_no_sems (by decide) r.2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.Gen.facts, Cert.Pre_finite6.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ,
  fun m ρ _ => θ_run_mono (Cert.Reference2Ideal.Value.run m ρ) fun r h => ⟨fun c => (h c).2, sem_eq_zero_of_no_sems (by decide) r.2⟩,
  fun m ρ _ => Cert.Kernel3.Gen.frame m ρ, fun m ρ _ => Cert.Kernel3Ideal.Gen.frame m ρ,
  fun m ρ _ => θ_run_mono (Cert.Reference3Ideal.Value.run m ρ) fun r h => ⟨fun c => (h c).2, sem_eq_zero_of_no_sems (by decide) r.2⟩,
  fun m ρ _ => Cert.Kernel4.Gen.frame m ρ, fun m ρ _ => Cert.Kernel4Ideal.Gen.frame m ρ,
  fun m ρ _ => θ_run_mono (Cert.Reference4Ideal.Value.run m ρ) fun r h => ⟨fun c => (h c).2, sem_eq_zero_of_no_sems (by decide) r.2⟩,
  fun m ρ _ => Cert.Kernel5.Gen.frame m ρ, fun m ρ _ => Cert.Kernel5Ideal.Gen.frame m ρ,
  fun m ρ _ => θ_run_mono (Cert.Reference5Ideal.Value.run m ρ) fun r h => ⟨fun c => (h c).2, sem_eq_zero_of_no_sems (by decide) r.2⟩,
  fun m ρ _ => Cert.Kernel6.Gen.frame m ρ, fun m ρ _ => Cert.Kernel6Ideal.Gen.frame m ρ, fun m ρ _ => Cert.Kernel6Ideal.Gen.frame m ρ,
  frame_reference6, fun m ρ _ => frame_reference6 m ρ trivial,
  fun m ρ _ => Cert.Kernel7.Gen.frame m ρ, fun m ρ _ => Cert.Kernel7Ideal.Gen.frame m ρ,
  fun m ρ _ => θ_run_mono (Cert.Reference7Ideal.Value.run m ρ) fun r h => ⟨fun c => (h c).2.2.2, sem_eq_zero_of_no_sems (by decide) r.2⟩,
  fun m ρ _ => Cert.Kernel8.Gen.frame m ρ, fun m ρ _ => Cert.Kernel8Ideal.Gen.frame m ρ,
  fun m ρ _ => θ_run_mono (Cert.Reference8Ideal.Value.run m ρ) fun r h => ⟨fun c => (h c).2.2.2, sem_eq_zero_of_no_sems (by decide) r.2⟩,
  trivial, Cert.Attn.attention, trivial, ffn_final, trivial, ffn_open, trivial, ffn_inner, trivial, ffn_close,
  trivial, Cert.Gq.attention, trivial, da_projection, trivial, gq_projection⟩

end Cert.Proof

end
